-- ==== Defs.lean ====
def Pre_Kernel [hPre_rules_in_range : Cert.Pre_rules_in_range.Facts] (m : (ℓ : Loc Cert.Kernel.nD Cert.Kernel.τ Cert.Kernel.sig) → Buf (Elt Bits) ℓ) : Prop :=
  ∀ c : Dev Cert.Kernel.nD,
    (Cert.Pre_rules_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rules_in_range : Cert.Pre_rules_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rules_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_product_rules [hPre_product_rules : Cert.Pre_product_rules.Facts] (m : (ℓ : Loc Cert.KernelIdeal.nD Cert.KernelIdeal.τ Cert.KernelIdeal.sig) → Buf (Elt Ideal) ℓ) : Prop :=
  ∀ c : Dev Cert.KernelIdeal.nD,
    (Cert.Pre_product_rules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_product_rules [hPre_product_rules : Cert.Pre_product_rules.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_product_rules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rules_in_range : Cert.Pre_rules_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rules_in_range : Cert.Pre_rules_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_product_rules [hKernelIdeal : Cert.KernelIdeal.Facts] [hPre_product_rules : Cert.Pre_product_rules.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_product_rules m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_product_rules [hReferenceIdeal : Cert.ReferenceIdeal.Facts] [hPre_product_rules : Cert.Pre_product_rules.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_product_rules m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_product_rules [hKernelIdeal : Cert.KernelIdeal.Facts] [hReferenceIdeal : Cert.ReferenceIdeal.Facts] [hPre_product_rules : Cert.Pre_product_rules.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_product_rules m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rules_in_range : Cert.Pre_rules_in_range.Facts) (hPre_product_rules : Cert.Pre_product_rules.Facts),
    quiescent_Kernel (hKernel := hKernel) (hPre_rules_in_range := hPre_rules_in_range)
    ∧ quiescent_KernelIdeal (hKernelIdeal := hKernelIdeal) (hPre_rules_in_range := hPre_rules_in_range)
    ∧ quiescent_KernelIdeal_pre_product_rules (hKernelIdeal := hKernelIdeal) (hPre_product_rules := hPre_product_rules)
    ∧ quiescent_ReferenceIdeal (hReferenceIdeal := hReferenceIdeal)
    ∧ quiescent_ReferenceIdeal_pre_product_rules (hReferenceIdeal := hReferenceIdeal) (hPre_product_rules := hPre_product_rules)
    ∧ preserves_Kernel_KernelIdeal
    ∧ algebraic_KernelIdeal_ReferenceIdeal_pre_product_rules (hKernelIdeal := hKernelIdeal) (hReferenceIdeal := hReferenceIdeal) (hPre_product_rules := hPre_product_rules)
-- ==== Pre_product_rules.lean ====
abbrev S16384x8x2 : Shape := ⟨3, ![16384, 8, 2]⟩
abbrev S256x8 : Shape := ⟨2, ![256, 8]⟩
abbrev S_ : Shape := ⟨0, ![]⟩
abbrev S16x16x8 : Shape := ⟨3, ![16, 16, 8]⟩
abbrev S16x16x4 : Shape := ⟨3, ![16, 16, 4]⟩
abbrev S16x1x4 : Shape := ⟨3, ![16, 1, 4]⟩
abbrev S1x16x4 : Shape := ⟨3, ![1, 16, 4]⟩

class Facts : Prop where
  bcast_S_S256x8 : S_.BroadcastsInDim S256x8 (![] : Fin 0 → Fin S256x8.rank)
  reducesTo_S256x8_S_d0_1 : S256x8.ReducesTo [0, 1] S_
  h_S_ : 0 < S_.numel
  shapeCasts_S256x8_S16x16x8 : S256x8.ShapeCasts S16x16x8
  slices_S16x16x8_S16x16x4_0_0_0 : S16x16x8.Slices ![0, 0, 0] S16x16x4
  slices_S16x16x8_S16x1x4_0_0_0 : S16x16x8.Slices ![0, 0, 0] S16x1x4
  bcast_S16x1x4_S16x16x4_0_1_2 : S16x1x4.BroadcastsInDim S16x16x4 (![0, 1, 2] : Fin 3 → Fin S16x16x4.rank)
  reducesTo_S16x16x4_S_d0_1_2 : S16x16x4.ReducesTo [0, 1, 2] S_
  slices_S16x16x8_S16x16x4_0_0_4 : S16x16x8.Slices ![0, 0, 4] S16x16x4
  slices_S16x16x8_S1x16x4_0_0_4 : S16x16x8.Slices ![0, 0, 4] S1x16x4
  bcast_S1x16x4_S16x16x4_0_1_2 : S1x16x4.BroadcastsInDim S16x16x4 (![0, 1, 2] : Fin 3 → Fin S16x16x4.rank)

variable [Facts]

def fn {F : FTy → Type} [FloatOps F] (main_arg0 : FVec F S16384x8x2 .f32) (main_arg1 : IVec S256x8 32) : IVec S_ 1 :=
  let main_c : IVec S_ 32 := constantI S_ 32 0#32
  let main_v0 : IVec S256x8 32 := broadcastInDim S256x8 ![] bcast_S_S256x8 main_c
  let main_v1 : IVec S256x8 1 := cmpi .sge main_arg1 main_v0
  let main_c_0 : IVec S_ 32 := constantI S_ 32 2#32
  let main_v2 : IVec S256x8 32 := broadcastInDim S256x8 ![] bcast_S_S256x8 main_c_0
  let main_v3 : IVec S256x8 1 := cmpi .slt main_arg1 main_v2
  let main_v4 : IVec S256x8 1 := andi main_v1 main_v3
  let main_c_1 : IVec S_ 1 := constantI S_ 1 1#1
  let main_v5 : IVec S_ 1 := (fun x v => Host.reduce IntOp.andi x v reducesTo_S256x8_S_d0_1 h_S_) main_v4 main_c_1
  let main_v6 : IVec S16x16x8 32 := shapeCast S16x16x8 main_arg1 shapeCasts_S256x8_S16x16x8
  let main_v7 : IVec S16x16x4 32 := (extractStridedSlice S16x16x4 ![0, 0, 0] · slices_S16x16x8_S16x16x4_0_0_0) main_v6
  let main_v8 : IVec S16x1x4 32 := (extractStridedSlice S16x1x4 ![0, 0, 0] · slices_S16x16x8_S16x1x4_0_0_0) main_v6
  let main_v9 : IVec S16x16x4 32 := broadcastInDim S16x16x4 ![0, 1, 2] bcast_S16x1x4_S16x16x4_0_1_2 main_v8
  let main_v10 : IVec S16x16x4 1 := cmpi .eq main_v7 main_v9
  let main_c_2 : IVec S_ 1 := constantI S_ 1 1#1
  let main_v11 : IVec S_ 1 := (fun x v => Host.reduce IntOp.andi x v reducesTo_S16x16x4_S_d0_1_2 h_S_) main_v10 main_c_2
  let main_v12 : IVec S16x16x4 32 := (extractStridedSlice S16x16x4 ![0, 0, 4] · slices_S16x16x8_S16x16x4_0_0_4) main_v6
  let main_v13 : IVec S1x16x4 32 := (extractStridedSlice S1x16x4 ![0, 0, 4] · slices_S16x16x8_S1x16x4_0_0_4) main_v6
  let main_v14 : IVec S16x16x4 32 := broadcastInDim S16x16x4 ![0, 1, 2] bcast_S1x16x4_S16x16x4_0_1_2 main_v13
  let main_v15 : IVec S16x16x4 1 := cmpi .eq main_v12 main_v14
  let main_c_3 : IVec S_ 1 := constantI S_ 1 1#1
  let main_v16 : IVec S_ 1 := (fun x v => Host.reduce IntOp.andi x v reducesTo_S16x16x4_S_d0_1_2 h_S_) main_v15 main_c_3
  let main_v17 : IVec S_ 1 := andi main_v5 main_v11
  let main_v18 : IVec S_ 1 := andi main_v17 main_v16
  main_v18
-- ==== Pre_rules_in_range.lean ====
abbrev S16384x8x2 : Shape := ⟨3, ![16384, 8, 2]⟩
abbrev S256x8 : Shape := ⟨2, ![256, 8]⟩
abbrev S_ : Shape := ⟨0, ![]⟩

class Facts : Prop where
  bcast_S_S256x8 : S_.BroadcastsInDim S256x8 (![] : Fin 0 → Fin S256x8.rank)
  reducesTo_S256x8_S_d0_1 : S256x8.ReducesTo [0, 1] S_
  h_S_ : 0 < S_.numel

variable [Facts]

def fn {F : FTy → Type} [FloatOps F] (main_arg0 : FVec F S16384x8x2 .f32) (main_arg1 : IVec S256x8 32) : IVec S_ 1 :=
  let main_c : IVec S_ 32 := constantI S_ 32 0#32
  let main_v0 : IVec S256x8 32 := broadcastInDim S256x8 ![] bcast_S_S256x8 main_c
  let main_v1 : IVec S256x8 1 := cmpi .sge main_arg1 main_v0
  let main_c_0 : IVec S_ 32 := constantI S_ 32 2#32
  let main_v2 : IVec S256x8 32 := broadcastInDim S256x8 ![] bcast_S_S256x8 main_c_0
  let main_v3 : IVec S256x8 1 := cmpi .slt main_arg1 main_v2
  let main_v4 : IVec S256x8 1 := andi main_v1 main_v3
  let main_c_1 : IVec S_ 1 := constantI S_ 1 1#1
  let main_v5 : IVec S_ 1 := (fun x v => Host.reduce IntOp.andi x v reducesTo_S256x8_S_d0_1 h_S_) main_v4 main_c_1
  main_v5
-- ==== Kernel.lean ====
abbrev S16384x8x2 : Shape := ⟨3, ![16384, 8, 2]⟩
abbrev S256x8 : Shape := ⟨2, ![256, 8]⟩
abbrev S4 : Shape := ⟨1, ![4]⟩
abbrev S4x1 : Shape := ⟨2, ![4, 1]⟩
abbrev S_ : Shape := ⟨0, ![]⟩
abbrev S16x4 : Shape := ⟨2, ![16, 4]⟩
abbrev S4x16 : Shape := ⟨2, ![4, 16]⟩
abbrev S8x16 : Shape := ⟨2, ![8, 16]⟩
abbrev S262144 : Shape := ⟨1, ![262144]⟩
abbrev S16384x256 : Shape := ⟨2, ![16384, 256]⟩
abbrev S1024 : Shape := ⟨1, ![1024]⟩
abbrev S64x256 : Shape := ⟨2, ![64, 256]⟩
abbrev S16 : Shape := ⟨1, ![16]⟩
abbrev S1x16 : Shape := ⟨2, ![1, 16]⟩
abbrev S1 : Shape := ⟨1, ![1]⟩

abbrev nBuf : Table → Nat
  | .hbm => 25
  | .local .scVector .vmem => 5
  | _ => 0

abbrev bufTy : (tb : Table) → Fin (nBuf tb) → BufTy
  | .hbm, ⟨0, _⟩ => ⟨S16384x8x2, .f32⟩
  | .hbm, ⟨1, _⟩ => ⟨S256x8, .i32⟩
  | .hbm, ⟨2, _⟩ => ⟨S4, .i32⟩
  | .hbm, ⟨3, _⟩ => ⟨S4x1, .i32⟩
  | .hbm, ⟨4, _⟩ => ⟨S_, .i32⟩
  | .hbm, ⟨5, _⟩ => ⟨S4x1, .i32⟩
  | .hbm, ⟨6, _⟩ => ⟨S4x1, .i32⟩
  | .hbm, ⟨7, _⟩ => ⟨S16x4, .i32⟩
  | .hbm, ⟨8, _⟩ => ⟨S4x16, .i32⟩
  | .hbm, ⟨9, _⟩ => ⟨S4x16, .i32⟩
  | .hbm, ⟨10, _⟩ => ⟨S4x16, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S_, .i32⟩
  | .hbm, ⟨16, _⟩ => ⟨S4x1, .i32⟩
  | .hbm, ⟨17, _⟩ => ⟨S4x1, .i32⟩
  | .hbm, ⟨18, _⟩ => ⟨S16x4, .i32⟩
  | .hbm, ⟨19, _⟩ => ⟨S4x16, .i32⟩
  | .hbm, ⟨20, _⟩ => ⟨S4x16, .i32⟩
  | .hbm, ⟨21, _⟩ => ⟨S4x16, .i32⟩
  | .hbm, ⟨22, _⟩ => ⟨S8x16, .i32⟩
  | .hbm, ⟨23, _⟩ => ⟨S262144, .f32⟩
  | .hbm, ⟨24, _⟩ => ⟨S16384x256, .f32⟩
  | .local .scVector .vmem, ⟨0, _⟩ => ⟨S1024, .f32⟩
  | .local .scVector .vmem, ⟨1, _⟩ => ⟨S1024, .f32⟩
  | .local .scVector .vmem, ⟨2, _⟩ => ⟨S64x256, .f32⟩
  | .local .scVector .vmem, ⟨3, _⟩ => ⟨S64x256, .f32⟩
  | .local .scVector .vmem, ⟨4, _⟩ => ⟨S8x16, .i32⟩
  | _, _ => ⟨S16384x8x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v18_scv : Ref sig .scVector := ⟨.hbm, 23, rfl⟩
abbrev main_v17_scv : Ref sig .scVector := ⟨.hbm, 22, rfl⟩
abbrev main_v19_scv : Ref sig .scVector := ⟨.hbm, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_8 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v19 : BitVec 32 := Scalar.addi v2 c0_i32_8
  let c16_i32 : BitVec 32 := 16#32
  let v20 : BitVec 32 := Scalar.muli v19 c16_i32
  ![v20.toNat]
@[reducible] def k0_t1_loop : Scf.Loop 32 :=
  let c0_i32_11 : BitVec 32 := 0#32
  let c64_i32_12 : BitVec 32 := 64#32
  let v29 : BitVec 32 := Scalar.addi c0_i32_11 c64_i32_12
  let c1_i32_13 : BitVec 32 := 1#32
  ⟨c0_i32_11, v29, c1_i32_13⟩

def k0_chk1 (v125 : IVec S16 32) : Prop :=
  (∀ a x, ((![v125] : Fin 1 → IVec S16 32) a x).toNat < S1024.size a)
theorem k0_idx1_inb : ∀ (v125 : IVec S16 32) (k0_hw1 : k0_chk1 v125), ∀ a x, ((![v125] : Fin 1 → IVec S16 32) a x).toNat < S1024.size a := fun v125 k0_hw1 => k0_hw1

def k0_chk2 (v128 : IVec S16 32) : Prop :=
  (∀ a x, ((![v128] : Fin 1 → IVec S16 32) a x).toNat < S1024.size a)
theorem k0_idx2_inb : ∀ (v128 : IVec S16 32) (k0_hw2 : k0_chk2 v128), ∀ a x, ((![v128] : Fin 1 → IVec S16 32) a x).toNat < S1024.size a := fun v128 k0_hw2 => k0_hw2

def k0_chk3 (v131 : IVec S16 32) : Prop :=
  (∀ a x, ((![v131] : Fin 1 → IVec S16 32) a x).toNat < S1024.size a)
theorem k0_idx3_inb : ∀ (v131 : IVec S16 32) (k0_hw3 : k0_chk3 v131), ∀ a x, ((![v131] : Fin 1 → IVec S16 32) a x).toNat < S1024.size a := fun v131 k0_hw3 => k0_hw3

def k0_chk4 (v134 : IVec S16 32) : Prop :=
  (∀ a x, ((![v134] : Fin 1 → IVec S16 32) a x).toNat < S1024.size a)
theorem k0_idx4_inb : ∀ (v134 : IVec S16 32) (k0_hw4 : k0_chk4 v134), ∀ a x, ((![v134] : Fin 1 → IVec S16 32) a x).toNat < S1024.size a := fun v134 k0_hw4 => k0_hw4

def k0_chk5 (v137 : IVec S16 32) : Prop :=
  (∀ a x, ((![v137] : Fin 1 → IVec S16 32) a x).toNat < S1024.size a)
theorem k0_idx5_inb : ∀ (v137 : IVec S16 32) (k0_hw5 : k0_chk5 v137), ∀ a x, ((![v137] : Fin 1 → IVec S16 32) a x).toNat < S1024.size a := fun v137 k0_hw5 => k0_hw5

def k0_chk6 (v140 : IVec S16 32) : Prop :=
  (∀ a x, ((![v140] : Fin 1 → IVec S16 32) a x).toNat < S1024.size a)
theorem k0_idx6_inb : ∀ (v140 : IVec S16 32) (k0_hw6 : k0_chk6 v140), ∀ a x, ((![v140] : Fin 1 → IVec S16 32) a x).toNat < S1024.size a := fun v140 k0_hw6 => k0_hw6

def k0_chk7 (v143 : IVec S16 32) : Prop :=
  (∀ a x, ((![v143] : Fin 1 → IVec S16 32) a x).toNat < S1024.size a)
theorem k0_idx7_inb : ∀ (v143 : IVec S16 32) (k0_hw7 : k0_chk7 v143), ∀ a x, ((![v143] : Fin 1 → IVec S16 32) a x).toNat < S1024.size a := fun v143 k0_hw7 => k0_hw7

def k0_chk8 (v146 : IVec S16 32) : Prop :=
  (∀ a x, ((![v146] : Fin 1 → IVec S16 32) a x).toNat < S1024.size a)
theorem k0_idx8_inb : ∀ (v146 : IVec S16 32) (k0_hw8 : k0_chk8 v146), ∀ a x, ((![v146] : Fin 1 → IVec S16 32) a x).toNat < S1024.size a := fun v146 k0_hw8 => k0_hw8
def k0_off2 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v158 : Index := Scalar.indexCast arg13
  let c0_97 : Index := 0#32
  ![v158.toNat, 0]
def k0_off3 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v164 : Index := Scalar.indexCast arg13
  let c16 : Index := 16#32
  ![v164.toNat, 16]
def k0_off4 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v170 : Index := Scalar.indexCast arg13
  let c32 : Index := 32#32
  ![v170.toNat, 32]
def k0_off5 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v176 : Index := Scalar.indexCast arg13
  let c48 : Index := 48#32
  ![v176.toNat, 48]
def k0_off6 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v182 : Index := Scalar.indexCast arg13
  let c64 : Index := 64#32
  ![v182.toNat, 64]
def k0_off7 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v188 : Index := Scalar.indexCast arg13
  let c80 : Index := 80#32
  ![v188.toNat, 80]
def k0_off8 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v194 : Index := Scalar.indexCast arg13
  let c96 : Index := 96#32
  ![v194.toNat, 96]
def k0_off9 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v200 : Index := Scalar.indexCast arg13
  let c112 : Index := 112#32
  ![v200.toNat, 112]
def k0_off10 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v206 : Index := Scalar.indexCast arg13
  let c128 : Index := 128#32
  ![v206.toNat, 128]
def k0_off11 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v212 : Index := Scalar.indexCast arg13
  let c144 : Index := 144#32
  ![v212.toNat, 144]
def k0_off12 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v218 : Index := Scalar.indexCast arg13
  let c160 : Index := 160#32
  ![v218.toNat, 160]
def k0_off13 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v224 : Index := Scalar.indexCast arg13
  let c176 : Index := 176#32
  ![v224.toNat, 176]
def k0_off14 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v230 : Index := Scalar.indexCast arg13
  let c192 : Index := 192#32
  ![v230.toNat, 192]
def k0_off15 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v236 : Index := Scalar.indexCast arg13
  let c208 : Index := 208#32
  ![v236.toNat, 208]
def k0_off16 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v242 : Index := Scalar.indexCast arg13
  let c224 : Index := 224#32
  ![v242.toNat, 224]
def k0_off17 (k0_t1 : Fin k0_t1_loop.trips) : Fin 2 → Nat :=
  let c0_i32_11 : BitVec 32 := 0#32
  let c1_i32_13 : BitVec 32 := 1#32
  let arg13 : BitVec 32 := Scf.iv c0_i32_11 c1_i32_13 k0_t1
  let v248 : Index := Scalar.indexCast arg13
  let c240 : Index := 240#32
  ![v248.toNat, 240]
def k0_off18 (i : grid0.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v31 : BitVec 32 := Scalar.addi v2 c0_i32_15
  let c0_i32_16 : BitVec 32 := 0#32
  ![v31.toNat, 0]
@[reducible] def k0_t2_loop : Scf.Loop 32 :=
  let c0_i32_20 : BitVec 32 := 0#32
  let c64_i32_21 : BitVec 32 := 64#32
  let v40 : BitVec 32 := Scalar.addi c0_i32_20 c64_i32_21
  let c1_i32_22 : BitVec 32 := 1#32
  ⟨c0_i32_20, v40, c1_i32_22⟩

def k0_chk9 (v125 : IVec S16 32) : Prop :=
  (∀ a x, ((![v125] : Fin 1 → IVec S16 32) a x).toNat < S1024.size a)
theorem k0_idx9_inb : ∀ (v125 : IVec S16 32) (k0_hw9 : k0_chk9 v125), ∀ a x, ((![v125] : Fin 1 → IVec S16 32) a x).toNat < S1024.size a := fun v125 k0_hw9 => k0_hw9

def k0_chk10 (v128 : IVec S16 32) : Prop :=
  (∀ a x, ((![v128] : Fin 1 → IVec S16 32) a x).toNat < S1024.size a)
theorem k0_idx10_inb : ∀ (v128 : IVec S16 32) (k0_hw10 : k0_chk10 v128), ∀ a x, ((![v128] : Fin 1 → IVec S16 32) a x).toNat < S1024.size a := fun v128 k0_hw10 => k0_hw10

def k0_chk11 (v131 : IVec S16 32) : Prop :=
  (∀ a x, ((![v131] : Fin 1 → IVec S16 32) a x).toNat < S1024.size a)
theorem k0_idx11_inb : ∀ (v131 : IVec S16 32) (k0_hw11 : k0_chk11 v131), ∀ a x, ((![v131] : Fin 1 → IVec S16 32) a x).toNat < S1024.size a := fun v131 k0_hw11 => k0_hw11

def k0_chk12 (v134 : IVec S16 32) : Prop :=
  (∀ a x, ((![v134] : Fin 1 → IVec S16 32) a x).toNat < S1024.size a)
theorem k0_idx12_inb : ∀ (v134 : IVec S16 32) (k0_hw12 : k0_chk12 v134), ∀ a x, ((![v134] : Fin 1 → IVec S16 32) a x).toNat < S1024.size a := fun v134 k0_hw12 => k0_hw12

def k0_chk13 (v137 : IVec S16 32) : Prop :=
  (∀ a x, ((![v137] : Fin 1 → IVec S16 32) a x).toNat < S1024.size a)
theorem k0_idx13_inb : ∀ (v137 : IVec S16 32) (k0_hw13 : k0_chk13 v137), ∀ a x, ((![v137] : Fin 1 → IVec S16 32) a x).toNat < S1024.size a := fun v137 k0_hw13 => k0_hw13

def k0_chk14 (v140 : IVec S16 32) : Prop :=
  (∀ a x, ((![v140] : Fin 1 → IVec S16 32) a x).toNat < S1024.size a)
theorem k0_idx14_inb : ∀ (v140 : IVec S16 32) (k0_hw14 : k0_chk14 v140), ∀ a x, ((![v140] : Fin 1 → IVec S16 32) a x).toNat < S1024.size a := fun v140 k0_hw14 => k0_hw14

def k0_chk15 (v143 : IVec S16 32) : Prop :=
  (∀ a x, ((![v143] : Fin 1 → IVec S16 32) a x).toNat < S1024.size a)
theorem k0_idx15_inb : ∀ (v143 : IVec S16 32) (k0_hw15 : k0_chk15 v143), ∀ a x, ((![v143] : Fin 1 → IVec S16 32) a x).toNat < S1024.size a := fun v143 k0_hw15 => k0_hw15

def k0_chk16 (v146 : IVec S16 32) : Prop :=
  (∀ a x, ((![v146] : Fin 1 → IVec S16 32) a x).toNat < S1024.size a)
theorem k0_idx16_inb : ∀ (v146 : IVec S16 32) (k0_hw16 : k0_chk16 v146), ∀ a x, ((![v146] : Fin 1 → IVec S16 32) a x).toNat < S1024.size a := fun v146 k0_hw16 => k0_hw16
def k0_off19 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v158 : Index := Scalar.indexCast arg13
  let c0_97 : Index := 0#32
  ![v158.toNat, 0]
def k0_off20 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v164 : Index := Scalar.indexCast arg13
  let c16 : Index := 16#32
  ![v164.toNat, 16]
def k0_off21 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v170 : Index := Scalar.indexCast arg13
  let c32 : Index := 32#32
  ![v170.toNat, 32]
def k0_off22 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v176 : Index := Scalar.indexCast arg13
  let c48 : Index := 48#32
  ![v176.toNat, 48]
def k0_off23 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v182 : Index := Scalar.indexCast arg13
  let c64 : Index := 64#32
  ![v182.toNat, 64]
def k0_off24 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v188 : Index := Scalar.indexCast arg13
  let c80 : Index := 80#32
  ![v188.toNat, 80]
def k0_off25 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v194 : Index := Scalar.indexCast arg13
  let c96 : Index := 96#32
  ![v194.toNat, 96]
def k0_off26 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v200 : Index := Scalar.indexCast arg13
  let c112 : Index := 112#32
  ![v200.toNat, 112]
def k0_off27 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v206 : Index := Scalar.indexCast arg13
  let c128 : Index := 128#32
  ![v206.toNat, 128]
def k0_off28 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v212 : Index := Scalar.indexCast arg13
  let c144 : Index := 144#32
  ![v212.toNat, 144]
def k0_off29 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v218 : Index := Scalar.indexCast arg13
  let c160 : Index := 160#32
  ![v218.toNat, 160]
def k0_off30 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v224 : Index := Scalar.indexCast arg13
  let c176 : Index := 176#32
  ![v224.toNat, 176]
def k0_off31 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v230 : Index := Scalar.indexCast arg13
  let c192 : Index := 192#32
  ![v230.toNat, 192]
def k0_off32 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v236 : Index := Scalar.indexCast arg13
  let c208 : Index := 208#32
  ![v236.toNat, 208]
def k0_off33 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v242 : Index := Scalar.indexCast arg13
  let c224 : Index := 224#32
  ![v242.toNat, 224]
def k0_off34 (k0_t2 : Fin k0_t2_loop.trips) : Fin 2 → Nat :=
  let c0_i32_20 : BitVec 32 := 0#32
  let c1_i32_22 : BitVec 32 := 1#32
  let arg13 : BitVec 32 := Scf.iv c0_i32_20 c1_i32_22 k0_t2
  let v248 : Index := Scalar.indexCast arg13
  let c240 : Index := 240#32
  ![v248.toNat, 240]
def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_28 : BitVec 32 := 0#32
  ![v2.toNat, 0]
@[reducible] def k0_t3_loop : Scf.Loop 32 :=
  let c0_i32_31 : BitVec 32 := 0#32
  let c64_i32_32 : BitVec 32 := 64#32
  let v53 : BitVec 32 := Scalar.addi c0_i32_31 c64_i32_32
  let c1_i32_33 : BitVec 32 := 1#32
  ⟨c0_i32_31, v53, c1_i32_33⟩

def k0_chk17 (v125 : IVec S16 32) : Prop :=
  (∀ a x, ((![v125] : Fin 1 → IVec S16 32) a x).toNat < S1024.size a)
theorem k0_idx17_inb : ∀ (v125 : IVec S16 32) (k0_hw17 : k0_chk17 v125), ∀ a x, ((![v125] : Fin 1 → IVec S16 32) a x).toNat < S1024.size a := fun v125 k0_hw17 => k0_hw17

def k0_chk18 (v128 : IVec S16 32) : Prop :=
  (∀ a x, ((![v128] : Fin 1 → IVec S16 32) a x).toNat < S1024.size a)
theorem k0_idx18_inb : ∀ (v128 : IVec S16 32) (k0_hw18 : k0_chk18 v128), ∀ a x, ((![v128] : Fin 1 → IVec S16 32) a x).toNat < S1024.size a := fun v128 k0_hw18 => k0_hw18

def k0_chk19 (v131 : IVec S16 32) : Prop :=
  (∀ a x, ((![v131] : Fin 1 → IVec S16 32) a x).toNat < S1024.size a)
theorem k0_idx19_inb : ∀ (v131 : IVec S16 32) (k0_hw19 : k0_chk19 v131), ∀ a x, ((![v131] : Fin 1 → IVec S16 32) a x).toNat < S1024.size a := fun v131 k0_hw19 => k0_hw19

def k0_chk20 (v134 : IVec S16 32) : Prop :=
  (∀ a x, ((![v134] : Fin 1 → IVec S16 32) a x).toNat < S1024.size a)
theorem k0_idx20_inb : ∀ (v134 : IVec S16 32) (k0_hw20 : k0_chk20 v134), ∀ a x, ((![v134] : Fin 1 → IVec S16 32) a x).toNat < S1024.size a := fun v134 k0_hw20 => k0_hw20

def k0_chk21 (v137 : IVec S16 32) : Prop :=
  (∀ a x, ((![v137] : Fin 1 → IVec S16 32) a x).toNat < S1024.size a)
theorem k0_idx21_inb : ∀ (v137 : IVec S16 32) (k0_hw21 : k0_chk21 v137), ∀ a x, ((![v137] : Fin 1 → IVec S16 32) a x).toNat < S1024.size a := fun v137 k0_hw21 => k0_hw21

def k0_chk22 (v140 : IVec S16 32) : Prop :=
  (∀ a x, ((![v140] : Fin 1 → IVec S16 32) a x).toNat < S1024.size a)
theorem k0_idx22_inb : ∀ (v140 : IVec S16 32) (k0_hw22 : k0_chk22 v140), ∀ a x, ((![v140] : Fin 1 → IVec S16 32) a x).toNat < S1024.size a := fun v140 k0_hw22 => k0_hw22

def k0_chk23 (v143 : IVec S16 32) : Prop :=
  (∀ a x, ((![v143] : Fin 1 → IVec S16 32) a x).toNat < S1024.size a)
theorem k0_idx23_inb : ∀ (v143 : IVec S16 32) (k0_hw23 : k0_chk23 v143), ∀ a x, ((![v143] : Fin 1 → IVec S16 32) a x).toNat < S1024.size a := fun v143 k0_hw23 => k0_hw23

def k0_chk24 (v146 : IVec S16 32) : Prop :=
  (∀ a x, ((![v146] : Fin 1 → IVec S16 32) a x).toNat < S1024.size a)
theorem k0_idx24_inb : ∀ (v146 : IVec S16 32) (k0_hw24 : k0_chk24 v146), ∀ a x, ((![v146] : Fin 1 → IVec S16 32) a x).toNat < S1024.size a := fun v146 k0_hw24 => k0_hw24
def k0_off36 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v158 : Index := Scalar.indexCast arg13
  let c0_97 : Index := 0#32
  ![v158.toNat, 0]
def k0_off37 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v164 : Index := Scalar.indexCast arg13
  let c16 : Index := 16#32
  ![v164.toNat, 16]
def k0_off38 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v170 : Index := Scalar.indexCast arg13
  let c32 : Index := 32#32
  ![v170.toNat, 32]
def k0_off39 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v176 : Index := Scalar.indexCast arg13
  let c48 : Index := 48#32
  ![v176.toNat, 48]
def k0_off40 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v182 : Index := Scalar.indexCast arg13
  let c64 : Index := 64#32
  ![v182.toNat, 64]
def k0_off41 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v188 : Index := Scalar.indexCast arg13
  let c80 : Index := 80#32
  ![v188.toNat, 80]
def k0_off42 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v194 : Index := Scalar.indexCast arg13
  let c96 : Index := 96#32
  ![v194.toNat, 96]
def k0_off43 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v200 : Index := Scalar.indexCast arg13
  let c112 : Index := 112#32
  ![v200.toNat, 112]
def k0_off44 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v206 : Index := Scalar.indexCast arg13
  let c128 : Index := 128#32
  ![v206.toNat, 128]
def k0_off45 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v212 : Index := Scalar.indexCast arg13
  let c144 : Index := 144#32
  ![v212.toNat, 144]
def k0_off46 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v218 : Index := Scalar.indexCast arg13
  let c160 : Index := 160#32
  ![v218.toNat, 160]
def k0_off47 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v224 : Index := Scalar.indexCast arg13
  let c176 : Index := 176#32
  ![v224.toNat, 176]
def k0_off48 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v230 : Index := Scalar.indexCast arg13
  let c192 : Index := 192#32
  ![v230.toNat, 192]
def k0_off49 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v236 : Index := Scalar.indexCast arg13
  let c208 : Index := 208#32
  ![v236.toNat, 208]
def k0_off50 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v242 : Index := Scalar.indexCast arg13
  let c224 : Index := 224#32
  ![v242.toNat, 224]
def k0_off51 (k0_t3 : Fin k0_t3_loop.trips) : Fin 2 → Nat :=
  let c0_i32_31 : BitVec 32 := 0#32
  let c1_i32_33 : BitVec 32 := 1#32
  let arg13 : BitVec 32 := Scf.iv c0_i32_31 c1_i32_33 k0_t3
  let v248 : Index := Scalar.indexCast arg13
  let c240 : Index := 240#32
  ![v248.toNat, 240]
@[reducible] def k0_t4_loop : Scf.Loop 32 :=
  let c0_i32_42 : BitVec 32 := 0#32
  let c64_i32_43 : BitVec 32 := 64#32
  let v66 : BitVec 32 := Scalar.addi c0_i32_42 c64_i32_43
  let c1_i32_44 : BitVec 32 := 1#32
  ⟨c0_i32_42, v66, c1_i32_44⟩

def k0_chk25 (v125 : IVec S16 32) : Prop :=
  (∀ a x, ((![v125] : Fin 1 → IVec S16 32) a x).toNat < S1024.size a)
theorem k0_idx25_inb : ∀ (v125 : IVec S16 32) (k0_hw25 : k0_chk25 v125), ∀ a x, ((![v125] : Fin 1 → IVec S16 32) a x).toNat < S1024.size a := fun v125 k0_hw25 => k0_hw25

def k0_chk26 (v128 : IVec S16 32) : Prop :=
  (∀ a x, ((![v128] : Fin 1 → IVec S16 32) a x).toNat < S1024.size a)
theorem k0_idx26_inb : ∀ (v128 : IVec S16 32) (k0_hw26 : k0_chk26 v128), ∀ a x, ((![v128] : Fin 1 → IVec S16 32) a x).toNat < S1024.size a := fun v128 k0_hw26 => k0_hw26

def k0_chk27 (v131 : IVec S16 32) : Prop :=
  (∀ a x, ((![v131] : Fin 1 → IVec S16 32) a x).toNat < S1024.size a)
theorem k0_idx27_inb : ∀ (v131 : IVec S16 32) (k0_hw27 : k0_chk27 v131), ∀ a x, ((![v131] : Fin 1 → IVec S16 32) a x).toNat < S1024.size a := fun v131 k0_hw27 => k0_hw27

def k0_chk28 (v134 : IVec S16 32) : Prop :=
  (∀ a x, ((![v134] : Fin 1 → IVec S16 32) a x).toNat < S1024.size a)
theorem k0_idx28_inb : ∀ (v134 : IVec S16 32) (k0_hw28 : k0_chk28 v134), ∀ a x, ((![v134] : Fin 1 → IVec S16 32) a x).toNat < S1024.size a := fun v134 k0_hw28 => k0_hw28

def k0_chk29 (v137 : IVec S16 32) : Prop :=
  (∀ a x, ((![v137] : Fin 1 → IVec S16 32) a x).toNat < S1024.size a)
theorem k0_idx29_inb : ∀ (v137 : IVec S16 32) (k0_hw29 : k0_chk29 v137), ∀ a x, ((![v137] : Fin 1 → IVec S16 32) a x).toNat < S1024.size a := fun v137 k0_hw29 => k0_hw29

def k0_chk30 (v140 : IVec S16 32) : Prop :=
  (∀ a x, ((![v140] : Fin 1 → IVec S16 32) a x).toNat < S1024.size a)
theorem k0_idx30_inb : ∀ (v140 : IVec S16 32) (k0_hw30 : k0_chk30 v140), ∀ a x, ((![v140] : Fin 1 → IVec S16 32) a x).toNat < S1024.size a := fun v140 k0_hw30 => k0_hw30

def k0_chk31 (v143 : IVec S16 32) : Prop :=
  (∀ a x, ((![v143] : Fin 1 → IVec S16 32) a x).toNat < S1024.size a)
theorem k0_idx31_inb : ∀ (v143 : IVec S16 32) (k0_hw31 : k0_chk31 v143), ∀ a x, ((![v143] : Fin 1 → IVec S16 32) a x).toNat < S1024.size a := fun v143 k0_hw31 => k0_hw31

def k0_chk32 (v146 : IVec S16 32) : Prop :=
  (∀ a x, ((![v146] : Fin 1 → IVec S16 32) a x).toNat < S1024.size a)
theorem k0_idx32_inb : ∀ (v146 : IVec S16 32) (k0_hw32 : k0_chk32 v146), ∀ a x, ((![v146] : Fin 1 → IVec S16 32) a x).toNat < S1024.size a := fun v146 k0_hw32 => k0_hw32
def k0_off52 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v158 : Index := Scalar.indexCast arg13
  let c0_97 : Index := 0#32
  ![v158.toNat, 0]
def k0_off53 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v164 : Index := Scalar.indexCast arg13
  let c16 : Index := 16#32
  ![v164.toNat, 16]
def k0_off54 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v170 : Index := Scalar.indexCast arg13
  let c32 : Index := 32#32
  ![v170.toNat, 32]
def k0_off55 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v176 : Index := Scalar.indexCast arg13
  let c48 : Index := 48#32
  ![v176.toNat, 48]
def k0_off56 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v182 : Index := Scalar.indexCast arg13
  let c64 : Index := 64#32
  ![v182.toNat, 64]
def k0_off57 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v188 : Index := Scalar.indexCast arg13
  let c80 : Index := 80#32
  ![v188.toNat, 80]
def k0_off58 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v194 : Index := Scalar.indexCast arg13
  let c96 : Index := 96#32
  ![v194.toNat, 96]
def k0_off59 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v200 : Index := Scalar.indexCast arg13
  let c112 : Index := 112#32
  ![v200.toNat, 112]
def k0_off60 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v206 : Index := Scalar.indexCast arg13
  let c128 : Index := 128#32
  ![v206.toNat, 128]
def k0_off61 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v212 : Index := Scalar.indexCast arg13
  let c144 : Index := 144#32
  ![v212.toNat, 144]
def k0_off62 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v218 : Index := Scalar.indexCast arg13
  let c160 : Index := 160#32
  ![v218.toNat, 160]
def k0_off63 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v224 : Index := Scalar.indexCast arg13
  let c176 : Index := 176#32
  ![v224.toNat, 176]
def k0_off64 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v230 : Index := Scalar.indexCast arg13
  let c192 : Index := 192#32
  ![v230.toNat, 192]
def k0_off65 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v236 : Index := Scalar.indexCast arg13
  let c208 : Index := 208#32
  ![v236.toNat, 208]
def k0_off66 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v242 : Index := Scalar.indexCast arg13
  let c224 : Index := 224#32
  ![v242.toNat, 224]
def k0_off67 (k0_t4 : Fin k0_t4_loop.trips) : Fin 2 → Nat :=
  let c0_i32_42 : BitVec 32 := 0#32
  let c1_i32_44 : BitVec 32 := 1#32
  let arg13 : BitVec 32 := Scf.iv c0_i32_42 c1_i32_44 k0_t4
  let v248 : Index := Scalar.indexCast arg13
  let c240 : Index := 240#32
  ![v248.toNat, 240]
@[reducible] def k0_t5_loop : Scf.Loop 32 :=
  let c0_i32_53 : BitVec 32 := 0#32
  let c64_i32_54 : BitVec 32 := 64#32
  let v79 : BitVec 32 := Scalar.addi c0_i32_53 c64_i32_54
  let c1_i32_55 : BitVec 32 := 1#32
  ⟨c0_i32_53, v79, c1_i32_55⟩

def k0_chk33 (v125 : IVec S16 32) : Prop :=
  (∀ a x, ((![v125] : Fin 1 → IVec S16 32) a x).toNat < S1024.size a)
theorem k0_idx33_inb : ∀ (v125 : IVec S16 32) (k0_hw33 : k0_chk33 v125), ∀ a x, ((![v125] : Fin 1 → IVec S16 32) a x).toNat < S1024.size a := fun v125 k0_hw33 => k0_hw33

def k0_chk34 (v128 : IVec S16 32) : Prop :=
  (∀ a x, ((![v128] : Fin 1 → IVec S16 32) a x).toNat < S1024.size a)
theorem k0_idx34_inb : ∀ (v128 : IVec S16 32) (k0_hw34 : k0_chk34 v128), ∀ a x, ((![v128] : Fin 1 → IVec S16 32) a x).toNat < S1024.size a := fun v128 k0_hw34 => k0_hw34

def k0_chk35 (v131 : IVec S16 32) : Prop :=
  (∀ a x, ((![v131] : Fin 1 → IVec S16 32) a x).toNat < S1024.size a)
theorem k0_idx35_inb : ∀ (v131 : IVec S16 32) (k0_hw35 : k0_chk35 v131), ∀ a x, ((![v131] : Fin 1 → IVec S16 32) a x).toNat < S1024.size a := fun v131 k0_hw35 => k0_hw35

def k0_chk36 (v134 : IVec S16 32) : Prop :=
  (∀ a x, ((![v134] : Fin 1 → IVec S16 32) a x).toNat < S1024.size a)
theorem k0_idx36_inb : ∀ (v134 : IVec S16 32) (k0_hw36 : k0_chk36 v134), ∀ a x, ((![v134] : Fin 1 → IVec S16 32) a x).toNat < S1024.size a := fun v134 k0_hw36 => k0_hw36

def k0_chk37 (v137 : IVec S16 32) : Prop :=
  (∀ a x, ((![v137] : Fin 1 → IVec S16 32) a x).toNat < S1024.size a)
theorem k0_idx37_inb : ∀ (v137 : IVec S16 32) (k0_hw37 : k0_chk37 v137), ∀ a x, ((![v137] : Fin 1 → IVec S16 32) a x).toNat < S1024.size a := fun v137 k0_hw37 => k0_hw37

def k0_chk38 (v140 : IVec S16 32) : Prop :=
  (∀ a x, ((![v140] : Fin 1 → IVec S16 32) a x).toNat < S1024.size a)
theorem k0_idx38_inb : ∀ (v140 : IVec S16 32) (k0_hw38 : k0_chk38 v140), ∀ a x, ((![v140] : Fin 1 → IVec S16 32) a x).toNat < S1024.size a := fun v140 k0_hw38 => k0_hw38

def k0_chk39 (v143 : IVec S16 32) : Prop :=
  (∀ a x, ((![v143] : Fin 1 → IVec S16 32) a x).toNat < S1024.size a)
theorem k0_idx39_inb : ∀ (v143 : IVec S16 32) (k0_hw39 : k0_chk39 v143), ∀ a x, ((![v143] : Fin 1 → IVec S16 32) a x).toNat < S1024.size a := fun v143 k0_hw39 => k0_hw39

def k0_chk40 (v146 : IVec S16 32) : Prop :=
  (∀ a x, ((![v146] : Fin 1 → IVec S16 32) a x).toNat < S1024.size a)
theorem k0_idx40_inb : ∀ (v146 : IVec S16 32) (k0_hw40 : k0_chk40 v146), ∀ a x, ((![v146] : Fin 1 → IVec S16 32) a x).toNat < S1024.size a := fun v146 k0_hw40 => k0_hw40
def k0_off68 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v158 : Index := Scalar.indexCast arg13
  let c0_97 : Index := 0#32
  ![v158.toNat, 0]
def k0_off69 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v164 : Index := Scalar.indexCast arg13
  let c16 : Index := 16#32
  ![v164.toNat, 16]
def k0_off70 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v170 : Index := Scalar.indexCast arg13
  let c32 : Index := 32#32
  ![v170.toNat, 32]
def k0_off71 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v176 : Index := Scalar.indexCast arg13
  let c48 : Index := 48#32
  ![v176.toNat, 48]
def k0_off72 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v182 : Index := Scalar.indexCast arg13
  let c64 : Index := 64#32
  ![v182.toNat, 64]
def k0_off73 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v188 : Index := Scalar.indexCast arg13
  let c80 : Index := 80#32
  ![v188.toNat, 80]
def k0_off74 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v194 : Index := Scalar.indexCast arg13
  let c96 : Index := 96#32
  ![v194.toNat, 96]
def k0_off75 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v200 : Index := Scalar.indexCast arg13
  let c112 : Index := 112#32
  ![v200.toNat, 112]
def k0_off76 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v206 : Index := Scalar.indexCast arg13
  let c128 : Index := 128#32
  ![v206.toNat, 128]
def k0_off77 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v212 : Index := Scalar.indexCast arg13
  let c144 : Index := 144#32
  ![v212.toNat, 144]
def k0_off78 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v218 : Index := Scalar.indexCast arg13
  let c160 : Index := 160#32
  ![v218.toNat, 160]
def k0_off79 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v224 : Index := Scalar.indexCast arg13
  let c176 : Index := 176#32
  ![v224.toNat, 176]
def k0_off80 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v230 : Index := Scalar.indexCast arg13
  let c192 : Index := 192#32
  ![v230.toNat, 192]
def k0_off81 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v236 : Index := Scalar.indexCast arg13
  let c208 : Index := 208#32
  ![v236.toNat, 208]
def k0_off82 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v242 : Index := Scalar.indexCast arg13
  let c224 : Index := 224#32
  ![v242.toNat, 224]
def k0_off83 (k0_t5 : Fin k0_t5_loop.trips) : Fin 2 → Nat :=
  let c0_i32_53 : BitVec 32 := 0#32
  let c1_i32_55 : BitVec 32 := 1#32
  let arg13 : BitVec 32 := Scf.iv c0_i32_53 c1_i32_55 k0_t5
  let v248 : Index := Scalar.indexCast arg13
  let c240 : Index := 240#32
  ![v248.toNat, 240]
@[reducible] def k0_t6_loop : Scf.Loop 32 :=
  let c0_i32_64 : BitVec 32 := 0#32
  let c64_i32_65 : BitVec 32 := 64#32
  let v92 : BitVec 32 := Scalar.addi c0_i32_64 c64_i32_65
  let c1_i32_66 : BitVec 32 := 1#32
  ⟨c0_i32_64, v92, c1_i32_66⟩

def k0_chk41 (v125 : IVec S16 32) : Prop :=
  (∀ a x, ((![v125] : Fin 1 → IVec S16 32) a x).toNat < S1024.size a)
theorem k0_idx41_inb : ∀ (v125 : IVec S16 32) (k0_hw41 : k0_chk41 v125), ∀ a x, ((![v125] : Fin 1 → IVec S16 32) a x).toNat < S1024.size a := fun v125 k0_hw41 => k0_hw41

def k0_chk42 (v128 : IVec S16 32) : Prop :=
  (∀ a x, ((![v128] : Fin 1 → IVec S16 32) a x).toNat < S1024.size a)
theorem k0_idx42_inb : ∀ (v128 : IVec S16 32) (k0_hw42 : k0_chk42 v128), ∀ a x, ((![v128] : Fin 1 → IVec S16 32) a x).toNat < S1024.size a := fun v128 k0_hw42 => k0_hw42

def k0_chk43 (v131 : IVec S16 32) : Prop :=
  (∀ a x, ((![v131] : Fin 1 → IVec S16 32) a x).toNat < S1024.size a)
theorem k0_idx43_inb : ∀ (v131 : IVec S16 32) (k0_hw43 : k0_chk43 v131), ∀ a x, ((![v131] : Fin 1 → IVec S16 32) a x).toNat < S1024.size a := fun v131 k0_hw43 => k0_hw43

def k0_chk44 (v134 : IVec S16 32) : Prop :=
  (∀ a x, ((![v134] : Fin 1 → IVec S16 32) a x).toNat < S1024.size a)
theorem k0_idx44_inb : ∀ (v134 : IVec S16 32) (k0_hw44 : k0_chk44 v134), ∀ a x, ((![v134] : Fin 1 → IVec S16 32) a x).toNat < S1024.size a := fun v134 k0_hw44 => k0_hw44

def k0_chk45 (v137 : IVec S16 32) : Prop :=
  (∀ a x, ((![v137] : Fin 1 → IVec S16 32) a x).toNat < S1024.size a)
theorem k0_idx45_inb : ∀ (v137 : IVec S16 32) (k0_hw45 : k0_chk45 v137), ∀ a x, ((![v137] : Fin 1 → IVec S16 32) a x).toNat < S1024.size a := fun v137 k0_hw45 => k0_hw45

def k0_chk46 (v140 : IVec S16 32) : Prop :=
  (∀ a x, ((![v140] : Fin 1 → IVec S16 32) a x).toNat < S1024.size a)
theorem k0_idx46_inb : ∀ (v140 : IVec S16 32) (k0_hw46 : k0_chk46 v140), ∀ a x, ((![v140] : Fin 1 → IVec S16 32) a x).toNat < S1024.size a := fun v140 k0_hw46 => k0_hw46

def k0_chk47 (v143 : IVec S16 32) : Prop :=
  (∀ a x, ((![v143] : Fin 1 → IVec S16 32) a x).toNat < S1024.size a)
theorem k0_idx47_inb : ∀ (v143 : IVec S16 32) (k0_hw47 : k0_chk47 v143), ∀ a x, ((![v143] : Fin 1 → IVec S16 32) a x).toNat < S1024.size a := fun v143 k0_hw47 => k0_hw47

def k0_chk48 (v146 : IVec S16 32) : Prop :=
  (∀ a x, ((![v146] : Fin 1 → IVec S16 32) a x).toNat < S1024.size a)
theorem k0_idx48_inb : ∀ (v146 : IVec S16 32) (k0_hw48 : k0_chk48 v146), ∀ a x, ((![v146] : Fin 1 → IVec S16 32) a x).toNat < S1024.size a := fun v146 k0_hw48 => k0_hw48
def k0_off84 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v158 : Index := Scalar.indexCast arg13
  let c0_97 : Index := 0#32
  ![v158.toNat, 0]
def k0_off85 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v164 : Index := Scalar.indexCast arg13
  let c16 : Index := 16#32
  ![v164.toNat, 16]
def k0_off86 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v170 : Index := Scalar.indexCast arg13
  let c32 : Index := 32#32
  ![v170.toNat, 32]
def k0_off87 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v176 : Index := Scalar.indexCast arg13
  let c48 : Index := 48#32
  ![v176.toNat, 48]
def k0_off88 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v182 : Index := Scalar.indexCast arg13
  let c64 : Index := 64#32
  ![v182.toNat, 64]
def k0_off89 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v188 : Index := Scalar.indexCast arg13
  let c80 : Index := 80#32
  ![v188.toNat, 80]
def k0_off90 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v194 : Index := Scalar.indexCast arg13
  let c96 : Index := 96#32
  ![v194.toNat, 96]
def k0_off91 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v200 : Index := Scalar.indexCast arg13
  let c112 : Index := 112#32
  ![v200.toNat, 112]
def k0_off92 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v206 : Index := Scalar.indexCast arg13
  let c128 : Index := 128#32
  ![v206.toNat, 128]
def k0_off93 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v212 : Index := Scalar.indexCast arg13
  let c144 : Index := 144#32
  ![v212.toNat, 144]
def k0_off94 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v218 : Index := Scalar.indexCast arg13
  let c160 : Index := 160#32
  ![v218.toNat, 160]
def k0_off95 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v224 : Index := Scalar.indexCast arg13
  let c176 : Index := 176#32
  ![v224.toNat, 176]
def k0_off96 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v230 : Index := Scalar.indexCast arg13
  let c192 : Index := 192#32
  ![v230.toNat, 192]
def k0_off97 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v236 : Index := Scalar.indexCast arg13
  let c208 : Index := 208#32
  ![v236.toNat, 208]
def k0_off98 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v242 : Index := Scalar.indexCast arg13
  let c224 : Index := 224#32
  ![v242.toNat, 224]
def k0_off99 (k0_t6 : Fin k0_t6_loop.trips) : Fin 2 → Nat :=
  let c0_i32_64 : BitVec 32 := 0#32
  let c1_i32_66 : BitVec 32 := 1#32
  let arg13 : BitVec 32 := Scf.iv c0_i32_64 c1_i32_66 k0_t6
  let v248 : Index := Scalar.indexCast arg13
  let c240 : Index := 240#32
  ![v248.toNat, 240]
@[reducible] def k0_t7_loop : Scf.Loop 32 :=
  let c0_i32_75 : BitVec 32 := 0#32
  let c64_i32_76 : BitVec 32 := 64#32
  let v105 : BitVec 32 := Scalar.addi c0_i32_75 c64_i32_76
  let c1_i32_77 : BitVec 32 := 1#32
  ⟨c0_i32_75, v105, c1_i32_77⟩

def k0_chk49 (v125 : IVec S16 32) : Prop :=
  (∀ a x, ((![v125] : Fin 1 → IVec S16 32) a x).toNat < S1024.size a)
theorem k0_idx49_inb : ∀ (v125 : IVec S16 32) (k0_hw49 : k0_chk49 v125), ∀ a x, ((![v125] : Fin 1 → IVec S16 32) a x).toNat < S1024.size a := fun v125 k0_hw49 => k0_hw49

def k0_chk50 (v128 : IVec S16 32) : Prop :=
  (∀ a x, ((![v128] : Fin 1 → IVec S16 32) a x).toNat < S1024.size a)
theorem k0_idx50_inb : ∀ (v128 : IVec S16 32) (k0_hw50 : k0_chk50 v128), ∀ a x, ((![v128] : Fin 1 → IVec S16 32) a x).toNat < S1024.size a := fun v128 k0_hw50 => k0_hw50

def k0_chk51 (v131 : IVec S16 32) : Prop :=
  (∀ a x, ((![v131] : Fin 1 → IVec S16 32) a x).toNat < S1024.size a)
theorem k0_idx51_inb : ∀ (v131 : IVec S16 32) (k0_hw51 : k0_chk51 v131), ∀ a x, ((![v131] : Fin 1 → IVec S16 32) a x).toNat < S1024.size a := fun v131 k0_hw51 => k0_hw51

def k0_chk52 (v134 : IVec S16 32) : Prop :=
  (∀ a x, ((![v134] : Fin 1 → IVec S16 32) a x).toNat < S1024.size a)
theorem k0_idx52_inb : ∀ (v134 : IVec S16 32) (k0_hw52 : k0_chk52 v134), ∀ a x, ((![v134] : Fin 1 → IVec S16 32) a x).toNat < S1024.size a := fun v134 k0_hw52 => k0_hw52

def k0_chk53 (v137 : IVec S16 32) : Prop :=
  (∀ a x, ((![v137] : Fin 1 → IVec S16 32) a x).toNat < S1024.size a)
theorem k0_idx53_inb : ∀ (v137 : IVec S16 32) (k0_hw53 : k0_chk53 v137), ∀ a x, ((![v137] : Fin 1 → IVec S16 32) a x).toNat < S1024.size a := fun v137 k0_hw53 => k0_hw53

def k0_chk54 (v140 : IVec S16 32) : Prop :=
  (∀ a x, ((![v140] : Fin 1 → IVec S16 32) a x).toNat < S1024.size a)
theorem k0_idx54_inb : ∀ (v140 : IVec S16 32) (k0_hw54 : k0_chk54 v140), ∀ a x, ((![v140] : Fin 1 → IVec S16 32) a x).toNat < S1024.size a := fun v140 k0_hw54 => k0_hw54

def k0_chk55 (v143 : IVec S16 32) : Prop :=
  (∀ a x, ((![v143] : Fin 1 → IVec S16 32) a x).toNat < S1024.size a)
theorem k0_idx55_inb : ∀ (v143 : IVec S16 32) (k0_hw55 : k0_chk55 v143), ∀ a x, ((![v143] : Fin 1 → IVec S16 32) a x).toNat < S1024.size a := fun v143 k0_hw55 => k0_hw55

def k0_chk56 (v146 : IVec S16 32) : Prop :=
  (∀ a x, ((![v146] : Fin 1 → IVec S16 32) a x).toNat < S1024.size a)
theorem k0_idx56_inb : ∀ (v146 : IVec S16 32) (k0_hw56 : k0_chk56 v146), ∀ a x, ((![v146] : Fin 1 → IVec S16 32) a x).toNat < S1024.size a := fun v146 k0_hw56 => k0_hw56
def k0_off100 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v158 : Index := Scalar.indexCast arg13
  let c0_97 : Index := 0#32
  ![v158.toNat, 0]
def k0_off101 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v164 : Index := Scalar.indexCast arg13
  let c16 : Index := 16#32
  ![v164.toNat, 16]
def k0_off102 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v170 : Index := Scalar.indexCast arg13
  let c32 : Index := 32#32
  ![v170.toNat, 32]
def k0_off103 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v176 : Index := Scalar.indexCast arg13
  let c48 : Index := 48#32
  ![v176.toNat, 48]
def k0_off104 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v182 : Index := Scalar.indexCast arg13
  let c64 : Index := 64#32
  ![v182.toNat, 64]
def k0_off105 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v188 : Index := Scalar.indexCast arg13
  let c80 : Index := 80#32
  ![v188.toNat, 80]
def k0_off106 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v194 : Index := Scalar.indexCast arg13
  let c96 : Index := 96#32
  ![v194.toNat, 96]
def k0_off107 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v200 : Index := Scalar.indexCast arg13
  let c112 : Index := 112#32
  ![v200.toNat, 112]
def k0_off108 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v206 : Index := Scalar.indexCast arg13
  let c128 : Index := 128#32
  ![v206.toNat, 128]
def k0_off109 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v212 : Index := Scalar.indexCast arg13
  let c144 : Index := 144#32
  ![v212.toNat, 144]
def k0_off110 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v218 : Index := Scalar.indexCast arg13
  let c160 : Index := 160#32
  ![v218.toNat, 160]
def k0_off111 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v224 : Index := Scalar.indexCast arg13
  let c176 : Index := 176#32
  ![v224.toNat, 176]
def k0_off112 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v230 : Index := Scalar.indexCast arg13
  let c192 : Index := 192#32
  ![v230.toNat, 192]
def k0_off113 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v236 : Index := Scalar.indexCast arg13
  let c208 : Index := 208#32
  ![v236.toNat, 208]
def k0_off114 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v242 : Index := Scalar.indexCast arg13
  let c224 : Index := 224#32
  ![v242.toNat, 224]
def k0_off115 (k0_t7 : Fin k0_t7_loop.trips) : Fin 2 → Nat :=
  let c0_i32_75 : BitVec 32 := 0#32
  let c1_i32_77 : BitVec 32 := 1#32
  let arg13 : BitVec 32 := Scf.iv c0_i32_75 c1_i32_77 k0_t7
  let v248 : Index := Scalar.indexCast arg13
  let c240 : Index := 240#32
  ![v248.toNat, 240]
@[reducible] def k0_t8_loop : Scf.Loop 32 :=
  let c0_i32_85 : BitVec 32 := 0#32
  let c64_i32_86 : BitVec 32 := 64#32
  let v114 : BitVec 32 := Scalar.addi c0_i32_85 c64_i32_86
  let c1_i32_87 : BitVec 32 := 1#32
  ⟨c0_i32_85, v114, c1_i32_87⟩

def k0_chk57 (v125 : IVec S16 32) : Prop :=
  (∀ a x, ((![v125] : Fin 1 → IVec S16 32) a x).toNat < S1024.size a)
theorem k0_idx57_inb : ∀ (v125 : IVec S16 32) (k0_hw57 : k0_chk57 v125), ∀ a x, ((![v125] : Fin 1 → IVec S16 32) a x).toNat < S1024.size a := fun v125 k0_hw57 => k0_hw57

def k0_chk58 (v128 : IVec S16 32) : Prop :=
  (∀ a x, ((![v128] : Fin 1 → IVec S16 32) a x).toNat < S1024.size a)
theorem k0_idx58_inb : ∀ (v128 : IVec S16 32) (k0_hw58 : k0_chk58 v128), ∀ a x, ((![v128] : Fin 1 → IVec S16 32) a x).toNat < S1024.size a := fun v128 k0_hw58 => k0_hw58

def k0_chk59 (v131 : IVec S16 32) : Prop :=
  (∀ a x, ((![v131] : Fin 1 → IVec S16 32) a x).toNat < S1024.size a)
theorem k0_idx59_inb : ∀ (v131 : IVec S16 32) (k0_hw59 : k0_chk59 v131), ∀ a x, ((![v131] : Fin 1 → IVec S16 32) a x).toNat < S1024.size a := fun v131 k0_hw59 => k0_hw59

def k0_chk60 (v134 : IVec S16 32) : Prop :=
  (∀ a x, ((![v134] : Fin 1 → IVec S16 32) a x).toNat < S1024.size a)
theorem k0_idx60_inb : ∀ (v134 : IVec S16 32) (k0_hw60 : k0_chk60 v134), ∀ a x, ((![v134] : Fin 1 → IVec S16 32) a x).toNat < S1024.size a := fun v134 k0_hw60 => k0_hw60

def k0_chk61 (v137 : IVec S16 32) : Prop :=
  (∀ a x, ((![v137] : Fin 1 → IVec S16 32) a x).toNat < S1024.size a)
theorem k0_idx61_inb : ∀ (v137 : IVec S16 32) (k0_hw61 : k0_chk61 v137), ∀ a x, ((![v137] : Fin 1 → IVec S16 32) a x).toNat < S1024.size a := fun v137 k0_hw61 => k0_hw61

def k0_chk62 (v140 : IVec S16 32) : Prop :=
  (∀ a x, ((![v140] : Fin 1 → IVec S16 32) a x).toNat < S1024.size a)
theorem k0_idx62_inb : ∀ (v140 : IVec S16 32) (k0_hw62 : k0_chk62 v140), ∀ a x, ((![v140] : Fin 1 → IVec S16 32) a x).toNat < S1024.size a := fun v140 k0_hw62 => k0_hw62

def k0_chk63 (v143 : IVec S16 32) : Prop :=
  (∀ a x, ((![v143] : Fin 1 → IVec S16 32) a x).toNat < S1024.size a)
theorem k0_idx63_inb : ∀ (v143 : IVec S16 32) (k0_hw63 : k0_chk63 v143), ∀ a x, ((![v143] : Fin 1 → IVec S16 32) a x).toNat < S1024.size a := fun v143 k0_hw63 => k0_hw63

def k0_chk64 (v146 : IVec S16 32) : Prop :=
  (∀ a x, ((![v146] : Fin 1 → IVec S16 32) a x).toNat < S1024.size a)
theorem k0_idx64_inb : ∀ (v146 : IVec S16 32) (k0_hw64 : k0_chk64 v146), ∀ a x, ((![v146] : Fin 1 → IVec S16 32) a x).toNat < S1024.size a := fun v146 k0_hw64 => k0_hw64
def k0_off116 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v158 : Index := Scalar.indexCast arg13
  let c0_97 : Index := 0#32
  ![v158.toNat, 0]
def k0_off117 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v164 : Index := Scalar.indexCast arg13
  let c16 : Index := 16#32
  ![v164.toNat, 16]
def k0_off118 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v170 : Index := Scalar.indexCast arg13
  let c32 : Index := 32#32
  ![v170.toNat, 32]
def k0_off119 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v176 : Index := Scalar.indexCast arg13
  let c48 : Index := 48#32
  ![v176.toNat, 48]
def k0_off120 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v182 : Index := Scalar.indexCast arg13
  let c64 : Index := 64#32
  ![v182.toNat, 64]
def k0_off121 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v188 : Index := Scalar.indexCast arg13
  let c80 : Index := 80#32
  ![v188.toNat, 80]
def k0_off122 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v194 : Index := Scalar.indexCast arg13
  let c96 : Index := 96#32
  ![v194.toNat, 96]
def k0_off123 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v200 : Index := Scalar.indexCast arg13
  let c112 : Index := 112#32
  ![v200.toNat, 112]
def k0_off124 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v206 : Index := Scalar.indexCast arg13
  let c128 : Index := 128#32
  ![v206.toNat, 128]
def k0_off125 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v212 : Index := Scalar.indexCast arg13
  let c144 : Index := 144#32
  ![v212.toNat, 144]
def k0_off126 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v218 : Index := Scalar.indexCast arg13
  let c160 : Index := 160#32
  ![v218.toNat, 160]
def k0_off127 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v224 : Index := Scalar.indexCast arg13
  let c176 : Index := 176#32
  ![v224.toNat, 176]
def k0_off128 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v230 : Index := Scalar.indexCast arg13
  let c192 : Index := 192#32
  ![v230.toNat, 192]
def k0_off129 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v236 : Index := Scalar.indexCast arg13
  let c208 : Index := 208#32
  ![v236.toNat, 208]
def k0_off130 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v242 : Index := Scalar.indexCast arg13
  let c224 : Index := 224#32
  ![v242.toNat, 224]
def k0_off131 (k0_t8 : Fin k0_t8_loop.trips) : Fin 2 → Nat :=
  let c0_i32_85 : BitVec 32 := 0#32
  let c1_i32_87 : BitVec 32 := 1#32
  let arg13 : BitVec 32 := Scf.iv c0_i32_85 c1_i32_87 k0_t8
  let v248 : Index := Scalar.indexCast arg13
  let c240 : Index := 240#32
  ![v248.toNat, 240]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x8x2 : Shape := ⟨3, ![16384, 8, 2]⟩
abbrev S256x8 : Shape := ⟨2, ![256, 8]⟩
abbrev S8 : Shape := ⟨1, ![8]⟩
abbrev S1x8 : Shape := ⟨2, ![1, 8]⟩
abbrev S_ : Shape := ⟨0, ![]⟩
abbrev S256x8x1 : Shape := ⟨3, ![256, 8, 1]⟩
abbrev S256x8x2 : Shape := ⟨3, ![256, 8, 2]⟩
abbrev S16384x256x8 : Shape := ⟨3, ![16384, 256, 8]⟩
abbrev S16384x256 : Shape := ⟨2, ![16384, 256]⟩
abbrev S16384x256x1 : Shape := ⟨3, ![16384, 256, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x8x2, .f32⟩
  | .hbm, ⟨1, _⟩ => ⟨S256x8, .i32⟩
  | .hbm, ⟨2, _⟩ => ⟨S8, .i32⟩
  | .hbm, ⟨3, _⟩ => ⟨S1x8, .i32⟩
  | .hbm, ⟨4, _⟩ => ⟨S_, .i32⟩
  | .hbm, ⟨5, _⟩ => ⟨S1x8, .i32⟩
  | .hbm, ⟨6, _⟩ => ⟨S1x8, .i1⟩
  | .hbm, ⟨7, _⟩ => ⟨S_, .i32⟩
  | .hbm, ⟨8, _⟩ => ⟨S1x8, .i32⟩
  | .hbm, ⟨9, _⟩ => ⟨S1x8, .i32⟩
  | .hbm, ⟨10, _⟩ => ⟨S1x8, .i32⟩
  | .hbm, ⟨11, _⟩ => ⟨S_, .i32⟩
  | .hbm, ⟨12, _⟩ => ⟨S256x8, .i32⟩
  | .hbm, ⟨13, _⟩ => ⟨S256x8, .i1⟩
  | .hbm, ⟨14, _⟩ => ⟨S_, .i32⟩
  | .hbm, ⟨15, _⟩ => ⟨S256x8, .i32⟩
  | .hbm, ⟨16, _⟩ => ⟨S256x8, .i32⟩
  | .hbm, ⟨17, _⟩ => ⟨S256x8, .i32⟩
  | .hbm, ⟨18, _⟩ => ⟨S256x8, .i32⟩
  | .hbm, ⟨19, _⟩ => ⟨S256x8x1, .i32⟩
  | .hbm, ⟨20, _⟩ => ⟨S256x8x1, .i32⟩
  | .hbm, ⟨21, _⟩ => ⟨S256x8x2, .i32⟩
  | .hbm, ⟨22, _⟩ => ⟨S16384x256x8, .f32⟩
  | .hbm, ⟨23, _⟩ => ⟨S_, .f32⟩
  | .hbm, ⟨24, _⟩ => ⟨S16384x256, .f32⟩
  | .hbm, ⟨25, _⟩ => ⟨S16384x256x1, .f32⟩
  | .hbm, ⟨26, _⟩ => ⟨S16384x256, .f32⟩
  | .hbm, ⟨27, _⟩ => ⟨S16384x256, .f32⟩
  | .hbm, ⟨28, _⟩ => ⟨S16384x256x1, .f32⟩
  | .hbm, ⟨29, _⟩ => ⟨S16384x256, .f32⟩
  | .hbm, ⟨30, _⟩ => ⟨S16384x256, .f32⟩
  | .hbm, ⟨31, _⟩ => ⟨S16384x256x1, .f32⟩
  | .hbm, ⟨32, _⟩ => ⟨S16384x256, .f32⟩
  | .hbm, ⟨33, _⟩ => ⟨S16384x256, .f32⟩
  | .hbm, ⟨34, _⟩ => ⟨S16384x256x1, .f32⟩
  | .hbm, ⟨35, _⟩ => ⟨S16384x256, .f32⟩
  | .hbm, ⟨36, _⟩ => ⟨S16384x256, .f32⟩
  | .hbm, ⟨37, _⟩ => ⟨S16384x256x1, .f32⟩
  | .hbm, ⟨38, _⟩ => ⟨S16384x256, .f32⟩
  | .hbm, ⟨39, _⟩ => ⟨S16384x256, .f32⟩
  | .hbm, ⟨40, _⟩ => ⟨S16384x256x1, .f32⟩
  | .hbm, ⟨41, _⟩ => ⟨S16384x256, .f32⟩
  | .hbm, ⟨42, _⟩ => ⟨S16384x256, .f32⟩
  | .hbm, ⟨43, _⟩ => ⟨S16384x256x1, .f32⟩
  | .hbm, ⟨44, _⟩ => ⟨S16384x256, .f32⟩
  | .hbm, ⟨45, _⟩ => ⟨S16384x256, .f32⟩
  | .hbm, ⟨46, _⟩ => ⟨S16384x256x1, .f32⟩
  | .hbm, ⟨47, _⟩ => ⟨S16384x256, .f32⟩
  | .hbm, ⟨48, _⟩ => ⟨S16384x256, .f32⟩
  | _, _ => ⟨S16384x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Proof.Pre.lean ====
/-
  What the precondition says of the rules' indices: each of them is zero or one, the first four indices of a rule
  depend on its number divided by sixteen alone, and the last four on the remainder alone.
-/
module

public import proofs.«01_k».proof.Defs
public import Idealize.ShloMosaic.Lib.Pipeline.Value
public import Idealize.ShloMosaic.Lib.StableHlo.Predicate

@[expose] public section

noncomputable section

namespace Cert.RulesPre

open Idealize.ShloMosaic Cert.Pre_product_rules

variable {F : FTy → Type} [FloatOps F]

/-- Index `j` of rule `r`, by their numbers. -/
def at2 (r j : ℕ) : S256x8.Idx := fun a => ⟨(![r, j] : Fin 2 → ℕ) a % S256x8.size a, Nat.mod_lt _ (by revert a; decide)⟩

/-- Every position is one by its numbers. -/
theorem at2_eta (y : S256x8.Idx) : at2 (y 0).val (y 1).val = y := by
  funext a
  refine Fin.ext ?_
  match a with
  | ⟨0, _⟩ => exact Nat.mod_eq_of_lt (y 0).isLt
  | ⟨1, _⟩ => exact Nat.mod_eq_of_lt (y 1).isLt

/-- Position `a`, `b`, `j` of the sixteen by sixteen by eight array. -/
def at3 (a b : Fin 16) (j : Fin 8) : S16x16x8.Idx := fun | 0 => a | 1 => b | 2 => j
/-- Position `a`, `b`, `j` of the sixteen by sixteen by four array. -/
def at4 (a b : Fin 16) (j : Fin 4) : S16x16x4.Idx := fun | 0 => a | 1 => b | 2 => j

/-- What the precondition gives. -/
structure Holds (mf : IVec S256x8 32) : Prop where
  lt : ∀ y, (mf y).toNat < 2
  first : ∀ (a b : Fin 16) (j : ℕ), j < 4 → mf (at2 (16 * a.val + b.val) j) = mf (at2 (16 * a.val) j)
  last : ∀ (a b : Fin 16) (j : ℕ), 4 ≤ j → j < 8 → mf (at2 (16 * a.val + b.val) j) = mf (at2 b.val j)

/-- Two bits whose conjunction is one are one. -/
theorem andi_one {b c : BitVec 1} (h : IntOp.andi b c = 1#1) : b = 1#1 ∧ c = 1#1 := by
  revert b c; decide

/-- Bits whose conjunction over a list, from a bit on, is one are all one. -/
theorem foldl_andi {ι : Type} (g : ι → BitVec 1) : ∀ (l : List ι) (b : BitVec 1), l.foldl (fun r n => IntOp.andi r (g n)) b = 1#1 → b = 1#1 ∧ ∀ n ∈ l, g n = 1#1
  | [], b, h => ⟨h, fun _ hn => absurd hn List.not_mem_nil⟩
  | n :: l, b, h => by
    obtain ⟨h1, h2⟩ := foldl_andi g l _ h
    have e : b = 1#1 ∧ g n = 1#1 := by
      exact andi_one h1
    exact ⟨e.1, fun k hk => by
      rcases List.mem_cons.mp hk with rfl | hk
      · exact e.2
      · exact h2 k hk⟩

/-- A conjunction over a whole array that is one has every bit one. -/
theorem reduce_andi {s u : Shape} {axes : List (Fin s.rank)} (x : s.Idx → BitVec 1) (v : u.Idx → BitVec 1) (h : s.ReducesTo axes S_) (hu : 0 < u.numel)
    (j : S_.Idx) (e : Host.reduce IntOp.andi x v h hu j = 1#1) (i : s.Idx) : x i = 1#1 := by
  have hm := (foldl_andi (fun n => x (s.rowMajor.symm n)) _ _ e).2 (s.rowMajor i)
    (List.mem_filter.mpr ⟨List.mem_finRange _, decide_eq_true (funext fun a => a.elim0)⟩)
  rwa [Equiv.symm_apply_apply] at hm

/-- A word that is not negative and below two, both signed, is zero or one. -/
theorem word_lt (v : BitVec 32) (e : IntOp.andi (IntOp.cmpi .sge v 0#32) (IntOp.cmpi .slt v 2#32) = 1#1) : v.toNat < 2 := by
  obtain ⟨e1, e2⟩ := andi_one e
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at e1 e2
  omega

variable [Facts]
open Facts

/-- The rules' indices as a sixteen by sixteen by eight array. -/
theorem halves_apply (mf : IVec S256x8 32) (a b : Fin 16) (j : Fin 8) :
    shapeCast S16x16x8 mf shapeCasts_S256x8_S16x16x8 (at3 a b j) = mf (at2 (16 * a.val + b.val) j.val) := by
  refine shapeCast_apply mf _ _ _ ?_
  rw [Shape.rowMajor_val_two, Shape.rowMajor_val_three]
  show (16 * a.val + b.val) % 256 * 8 + j.val % 8 = (a.val * 16 + b.val) * 8 + j.val
  have := a.isLt; have := b.isLt; have := j.isLt
  omega

/-- Position `a`, `j` of the sixteen by one by four array, and `b`, `j` of the one by sixteen by four. -/
def atRow (a : Fin 16) (j : Fin 4) : S16x1x4.Idx := fun | 0 => a | 1 => ⟨0, Nat.one_pos⟩ | 2 => j
def atCol (b : Fin 16) (j : Fin 4) : S1x16x4.Idx := fun | 0 => ⟨0, Nat.one_pos⟩ | 1 => b | 2 => j

variable (mf : IVec S256x8 32) (a b : Fin 16) (j : Fin 4)

/-- The precondition compares the first four indices of each rule -/
theorem first_apply : extractStridedSlice S16x16x4 ![0, 0, 0] (shapeCast S16x16x8 mf shapeCasts_S256x8_S16x16x8) slices_S16x16x8_S16x16x4_0_0_0 (at4 a b j)
    = mf (at2 (16 * a.val + b.val) j.val) := by
  have hj : j.val < 8 := by have := j.isLt; omega
  rw [← halves_apply mf a b ⟨j.val, hj⟩]
  refine extractStridedSlice_apply _ _ _ _ _ fun k => ?_
  match k with
  | ⟨0, _⟩ => exact (Nat.zero_add _).symm
  | ⟨1, _⟩ => exact (Nat.zero_add _).symm
  | ⟨2, _⟩ => exact (Nat.zero_add _).symm

/-- the last four indices of each rule -/
theorem last_apply : extractStridedSlice S16x16x4 ![0, 0, 4] (shapeCast S16x16x8 mf shapeCasts_S256x8_S16x16x8) slices_S16x16x8_S16x16x4_0_0_4 (at4 a b j)
    = mf (at2 (16 * a.val + b.val) (4 + j.val)) := by
  have hj : 4 + j.val < 8 := by have := j.isLt; omega
  rw [← halves_apply mf a b ⟨4 + j.val, hj⟩]
  refine extractStridedSlice_apply _ _ _ _ _ fun k => ?_
  match k with
  | ⟨0, _⟩ => exact (Nat.zero_add _).symm
  | ⟨1, _⟩ => exact (Nat.zero_add _).symm
  | ⟨2, _⟩ => rfl

/-- with those of the rule of the same quotient and remainder zero, -/
theorem firstRow_apply : broadcastInDim S16x16x4 ![0, 1, 2] bcast_S16x1x4_S16x16x4_0_1_2
      (extractStridedSlice S16x1x4 ![0, 0, 0] (shapeCast S16x16x8 mf shapeCasts_S256x8_S16x16x8) slices_S16x16x8_S16x1x4_0_0_0) (at4 a b j)
    = mf (at2 (16 * a.val) j.val) := by
  have hj : j.val < 8 := by have := j.isLt; omega
  rw [broadcastInDim_apply ![0, 1, 2] _ _ (at4 a b j) (atRow a j) (fun k => by
    match k with
    | ⟨0, _⟩ => rfl
    | ⟨1, _⟩ => rfl
    | ⟨2, _⟩ => rfl)]
  refine Eq.trans ?_ (halves_apply mf a 0 ⟨j.val, hj⟩)
  refine extractStridedSlice_apply _ _ _ _ _ fun k => ?_
  match k with
  | ⟨0, _⟩ => exact (Nat.zero_add _).symm
  | ⟨1, _⟩ => rfl
  | ⟨2, _⟩ => exact (Nat.zero_add _).symm

/-- with those of the rule of the same remainder and quotient zero. -/
theorem lastRow_apply : broadcastInDim S16x16x4 ![0, 1, 2] bcast_S1x16x4_S16x16x4_0_1_2
      (extractStridedSlice S1x16x4 ![0, 0, 4] (shapeCast S16x16x8 mf shapeCasts_S256x8_S16x16x8) slices_S16x16x8_S1x16x4_0_0_4) (at4 a b j)
    = mf (at2 b.val (4 + j.val)) := by
  have hj : 4 + j.val < 8 := by have := j.isLt; omega
  rw [broadcastInDim_apply ![0, 1, 2] _ _ (at4 a b j) (atCol b j) (fun k => by
    match k with
    | ⟨0, _⟩ => rfl
    | ⟨1, _⟩ => rfl
    | ⟨2, _⟩ => rfl)]
  refine Eq.trans ?_ ((halves_apply mf 0 b ⟨4 + j.val, hj⟩).trans (by rw [show 16 * (0 : Fin 16).val + b.val = b.val from by simp]))
  refine extractStridedSlice_apply _ _ _ _ _ fun k => ?_
  match k with
  | ⟨0, _⟩ => rfl
  | ⟨1, _⟩ => exact (Nat.zero_add _).symm
  | ⟨2, _⟩ => rfl

/-- The side conditions of the range alone hold. -/
theorem range_facts : Cert.Pre_rules_in_range.Facts := ⟨by decide, by decide, by decide⟩

/-- The range alone gives the range. -/
theorem lt_of_range [Cert.Pre_rules_in_range.Facts] (x : FVec F S16384x8x2 .f32) (h : Cert.Pre_rules_in_range.fn x mf = fun _ => 1#1) (y : S256x8.Idx) :
    (mf y).toNat < 2 := by
  have e := congrFun h (fun a => a.elim0)
  simp only [Cert.Pre_rules_in_range.fn, andi] at e
  exact word_lt _ (reduce_andi _ _ _ _ _ e y)

/-- The precondition of the value claim gives all of it. -/
theorem holds_of_pre (x : FVec F S16384x8x2 .f32) (h : fn x mf = fun _ => 1#1) : Holds mf := by
  have e := congrFun h (fun a => a.elim0)
  simp only [fn, andi] at e
  obtain ⟨e, e3⟩ := andi_one e
  obtain ⟨e1, e2⟩ := andi_one e
  refine ⟨fun y => word_lt _ (reduce_andi _ _ _ _ _ e1 y), fun a b j hj => ?_, fun a b j hj hj' => ?_⟩
  · have q := StableHlo.Predicate.cmpi_eq_iff.mp (reduce_andi _ _ _ _ _ e2 (at4 a b ⟨j, hj⟩))
    exact (first_apply mf a b ⟨j, hj⟩).symm.trans (q.trans (firstRow_apply mf a b ⟨j, hj⟩))
  · obtain ⟨k, rfl⟩ := Nat.exists_eq_add_of_le hj
    have hk : k < 4 := by omega
    have q := StableHlo.Predicate.cmpi_eq_iff.mp (reduce_andi _ _ _ _ _ e3 (at4 a b ⟨k, hk⟩))
    exact (last_apply mf a b ⟨k, hk⟩).symm.trans (q.trans (lastRow_apply mf a b ⟨k, hk⟩))

end Cert.RulesPre

end
-- ==== Proof.KernelIdeal.Row.lean ====
/-
  One row of the staging buffer. A counted-loop trip `t` of the kernel gathers sixteen lanes of each of
  the eight inputs' membership values out of the staged chunk of `x` (words `16 t + tab j lane`), multiplies
  the first four and the last four gathers lane by lane, and stores, for `k = 0 … 15`, lane `k` of the first
  product times the second product into columns `16 k … 16 k + 15` of row `t`. The trip is written here once as a
  program of eight gathers and a recursion over the sixteen stores (`rowProg`), shown to be the printed trip of
  the first loop, and run once, at any two buffers.
-/
module

public import proofs.«01_k».proof.Defs
public import Idealize.ShloMosaic.Lib.SparseCore.Quiescent
public import Idealize.ShloMosaic.Lib.Writes
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.KernelIdeal.Rules

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
/-- The ghost state: the handshakes' rounds beside the transfers' counters. -/
abbrev UU : Type := UH × Counters

local notation "𝕄" => MT nD τ sig (HIx 1) (Elt F) ℕ UU ℕ

abbrev 𝒱₀ : Variants := Variants.none

variable [FloatOps F]

/-! ## The value of a row -/

/-- A word of a 1024-word chunk, by its number (taken modulo 1024, so that it is one for every number). -/
def word (n : ℕ) : S1024.Idx := fun a => ⟨n % S1024.size a, Nat.mod_lt _ (by revert a; decide)⟩

/-- Lane `l` of a sixteen-lane vector, by its number (modulo 16). -/
def lane (n : ℕ) : S16.Idx := fun a => ⟨n % S16.size a, Nat.mod_lt _ (by revert a; decide)⟩

/-- The sixteen lanes trip `t` gathers by the table `v` out of the chunk `X`. -/
def lanes (X : S1024.Idx → F .f32) (v : IVec S16 32) (t : ℕ) : FVec F S16 .f32 :=
  fun x => X (word (16 * t + (v x).toNat))

/-- The product of the first four gathers of trip `t`, and of the last four. -/
def hiOf (X : S1024.Idx → F .f32) (v : Fin 8 → IVec S16 32) (t : ℕ) : FVec F S16 .f32 :=
  mulf (mulf (lanes X (v 0) t) (lanes X (v 1) t)) (mulf (lanes X (v 2) t) (lanes X (v 3) t))
def loOf (X : S1024.Idx → F .f32) (v : Fin 8 → IVec S16 32) (t : ℕ) : FVec F S16 .f32 :=
  mulf (mulf (lanes X (v 4) t) (lanes X (v 5) t)) (mulf (lanes X (v 6) t) (lanes X (v 7) t))

/-- What a chunk's rows hold once stored: at row `t` and column `16 k + l`, lane `k` of the first product times
    lane `l` of the second. -/
def chunkVal (X : S1024.Idx → F .f32) (v : Fin 8 → IVec S16 32) : S64x256.Idx → F .f32 := fun y =>
  FloatOps.mulf (hiOf X v (y 0).val (lane ((y 1).val / 16))) (loOf X v (y 0).val (lane ((y 1).val % 16)))

/-! ## The row as a program -/

/-- The effects of a vector subcore's programs. -/
abbrev TE (F : FTy → Type) (c : Fin τ.nSC) (s : Fin τ.nSub) := TpuEff nD τ sig (Elt F) Λ₀ (.scVector c s)

variable {c : Fin τ.nSC} {s : Fin τ.nSub}

/-- A gather of sixteen words of the staged chunk, its indices assumed in range. -/
def gatherAt (xb : Memref sig .scVector .vmem S1024 .f32) (v : IVec S16 32) : Prog (TE F c s) (Vec F S16 .f32) := do
  have hw : k0_chk1 v := (← Prog.lift (TpuEff.assume (k0_chk1 v) (k0_chk1.dec v))).down
  SparseCore.vectorLoadIdx xb ![v] (k0_idx1_inb v hw) (View.loads_vmem h_S1024)

/-- A store of sixteen columns of one row (the kernel loads the columns first and drops what it read). -/
def putStrip (ob : Memref sig .scVector .vmem S64x256 .f32) (off : Fin 2 → ℕ) (inb : ∀ a, off a + S1x16.size a ≤ S64x256.size a)
    (w : FVec F S16 .f32) : Prog (TE F c s) PUnit := do
  let _ ← Prog.lift (.load ob (Rect.unit (s := S64x256) off S1x16.size inb).toLoadRect (View.loadsAt_vmem h_S1x16))
  Prog.lift (.store ob (Rect.unit (s := S64x256) off S1x16.size inb) (shapeCast S1x16 w shapeCasts_S16_S1x16) Finset.univ
    (View.stores_vmem_bits_univ h_S1x16 rfl) (.inl rfl))

/-- A lane is a slice of a row of sixteen. -/
theorem slices_lane (k : Fin 16) : S16.Slices ![k.val] S1 := by revert k; decide

/-- Lane `k` of `hi` times every lane of `lo`. -/
def strip (hi lo : FVec F S16 .f32) (k : Fin 16) : FVec F S16 .f32 :=
  mulf (broadcast S16 (extractAt ![0] (extractStridedSlice S1 ![k.val] hi (slices_lane k)) inpos_S1_p0)) lo

/-- The offsets of the sixteen stores of trip `t`. -/
def rowOff (t : Fin k0_t1_loop.trips) : Fin 16 → Fin 2 → ℕ :=
  ![k0_off2 t, k0_off3 t, k0_off4 t, k0_off5 t, k0_off6 t, k0_off7 t, k0_off8 t, k0_off9 t, k0_off10 t, k0_off11 t, k0_off12 t,
    k0_off13 t, k0_off14 t, k0_off15 t, k0_off16 t, k0_off17 t]

/-- Store `k` of trip `t` is at row `t`, column `16 k`. -/
theorem rowOff_eq (t : Fin k0_t1_loop.trips) (k : Fin 16) : rowOff t k = ![t.val, 16 * k.val] := by
  revert t k; decide +kernel

/-- Each of the sixteen stores of a trip lies in the staging buffer. -/
theorem rowOff_inb (t : Fin k0_t1_loop.trips) (k : Fin 16) : ∀ a, rowOff t k a + S1x16.size a ≤ S64x256.size a := by
  have ht : t.val < 64 := t.isLt
  have hk := k.isLt
  rw [rowOff_eq]
  intro a
  match a with
  | 0 => show t.val + 1 ≤ 64; omega
  | 1 => show 16 * k.val + 16 ≤ 256; omega

/-- The last `n` of the sixteen stores of trip `t`. -/
def putRow (ob : Memref sig .scVector .vmem S64x256 .f32) (t : Fin k0_t1_loop.trips) (hi lo : FVec F S16 .f32) :
    (n : ℕ) → n ≤ 16 → Prog (TE F c s) (BitVec 32)
  | 0, _ => .ret 0#32
  | n + 1, h => do
    putStrip ob (rowOff t ⟨15 - n, by omega⟩) (rowOff_inb t _) (strip hi lo ⟨15 - n, by omega⟩)
    putRow ob t hi lo n (Nat.le_of_succ_le h)

/-- The indices trip `t` gathers by from the table `v`. -/
def tabAt (v : IVec S16 32) (t : Fin k0_t1_loop.trips) : IVec S16 32 :=
  addi v (broadcast S16 (Scalar.muli (Scf.iv 0#32 1#32 t) 16#32))

/-- Trip `t`: eight gathers, then the sixteen stores. -/
def rowProg (xb : Memref sig .scVector .vmem S1024 .f32) (ob : Memref sig .scVector .vmem S64x256 .f32) (v : Fin 8 → IVec S16 32)
    (t : Fin k0_t1_loop.trips) : Prog (TE F c s) (BitVec 32) := do
  let g0 ← gatherAt xb (tabAt (v 0) t)
  let g1 ← gatherAt xb (tabAt (v 1) t)
  let g2 ← gatherAt xb (tabAt (v 2) t)
  let g3 ← gatherAt xb (tabAt (v 3) t)
  let g4 ← gatherAt xb (tabAt (v 4) t)
  let g5 ← gatherAt xb (tabAt (v 5) t)
  let g6 ← gatherAt xb (tabAt (v 6) t)
  let g7 ← gatherAt xb (tabAt (v 7) t)
  putRow ob t (mulf (mulf g0 g1) (mulf g2 g3)) (mulf (mulf g4 g5) (mulf g6 g7)) 16 le_rfl

/-! ## The row's run -/

section Run

variable (d : Dev nD) (xb : Memref sig .scVector .vmem S1024 .f32) (ob : Memref sig .scVector .vmem S64x256 .f32)
variable (v : Fin 8 → IVec S16 32)

/-- An offset moved to row `t` is sixteen words per row further. -/
theorem tabAt_toNat (u : IVec S16 32) (t : Fin k0_t1_loop.trips) (x : S16.Idx) (hu : (u x).toNat < 16) :
    (tabAt u t x).toNat = 16 * t.val + (u x).toNat := by
  have ht : t.val < 64 := t.isLt
  have h : (Scalar.muli (Scf.iv 0#32 1#32 t.val) 16#32).toNat = 16 * t.val := by
    have : ∀ t : Fin k0_t1_loop.trips, (Scalar.muli (Scf.iv 0#32 1#32 t.val) 16#32).toNat = 16 * t.val := by decide +kernel
    exact this t
  show (u x + Scalar.muli (Scf.iv 0#32 1#32 t.val) 16#32).toNat = _
  rw [BitVec.toNat_add, h]
  omega

/-- Such an offset lies in the chunk, so the load it names is allowed. -/
theorem chk_tabAt (u : IVec S16 32) (t : Fin k0_t1_loop.trips) (hu : ∀ x, (u x).toNat < 16) : k0_chk1 (tabAt u t) := by
  intro a x
  match a with
  | 0 =>
    show (tabAt u t x).toNat < 1024
    rw [tabAt_toNat u t x (hu x)]
    have ht : t.val < 64 := t.isLt
    have := hu x
    omega

/-- A gather of trip `t`: the chunk is read, and the gathered lanes are `lanes`. -/
theorem wp_gatherAt {α : Type} (u : IVec S16 32) (t : Fin k0_t1_loop.trips) (hu : ∀ x, (u x).toNat < 16)
    {fx : Buf (Elt F) (xb.view.loc (V d c s))} {k : Vec F S16 .f32 → Prog (TE F c s) α} {Q : α → sProp 𝕄} :
    (xb.view.loc (V d c s) ↦{fullShare} fx)
      ⊢ iprop(((xb.view.loc (V d c s) ↦{fullShare} fx)
          -∗ wp frame (wpE (defs₀ (F := F)) 𝒱₀ (V d c s) none) Set.univ (k (lanes (xb.view.read (Elt F) fx) u t.val)) Q)
        -∗ wp frame (wpE (defs₀ (F := F)) 𝒱₀ (V d c s) none) Set.univ (gatherAt xb (tabAt u t) >>= k) Q) := by
  have hc := chk_tabAt u t hu
  have hv : ∀ h, loadIdx ((xb.access (.whole S1024)).read (Elt F) fx) ![tabAt u t] h = lanes (xb.view.read (Elt F) fx) u t.val := by
    intro h
    funext x
    show xb.view.read (Elt F) fx ((Rect.whole S1024).emb (idxAt ![tabAt u t] h x)) = xb.view.read (Elt F) fx (word (16 * t.val + (u x).toNat))
    congr 1
    funext a
    apply Fin.ext
    match a with
    | 0 =>
      have ht : t.val < 64 := t.isLt
      have hx := hu x
      show 0 + 1 * (tabAt u t x).toNat = (16 * t.val + (u x).toNat) % 1024
      rw [tabAt_toNat u t x (hu x)]; omega
  simp only [gatherAt, Prog.lift, Prog.bind_op, Prog.bind_ret]
  rw [wp_assume_of _ _ _ _ hc]
  rw [← hv hc]
  exact SparseCore.wp_vectorLoadIdx 𝒱₀ (V d c s) none Set.univ (base := xb) (S := Finset.univ) (q := fullShare) (Finset.subset_univ _)

variable (c s) in
/-- The first `n` strips (row by row, sixteen to a row) of the staging buffer hold `G`. -/
def stripsAt (G : S64x256.Idx → F .f32) (n : ℕ) : sProp 𝕄 :=
  iprop(∃ f, (ob.view.loc (V d c s) ↦{fullShare} f) ∗ ⌜∀ y : S64x256.Idx, 16 * (y 0).val + (y 1).val / 16 < n → ob.view.read (Elt F) f y = G y⌝)

/-- Column `n` (modulo 16) of the one-row strip a store writes. -/
def stripIdx (n : ℕ) : S1x16.Idx
  | 0 => ⟨0, by decide⟩
  | 1 => ⟨n % 16, Nat.mod_lt _ (by decide)⟩

/-- A sixteen-lane vector as a one-row strip: column `n` is lane `n`. -/
theorem shapeCast_strip (w : FVec F S16 .f32) (n : ℕ) : shapeCast S1x16 w shapeCasts_S16_S1x16 (stripIdx n) = w (lane n) := by
  show w (Shape.reshapeEquiv shapeCasts_S16_S1x16 (stripIdx n)) = w (lane n)
  refine congrArg w (Shape.reshapeEquiv_eq_of_rowMajor shapeCasts_S16_S1x16 ?_)
  rw [Shape.rowMajor_val_one, Shape.rowMajor_val_two]
  show n % 16 = 0 * 16 + n % 16
  omega

omit [FloatOps F] in
/-- What the view of the staging buffer reads after one strip is stored at row `t`, columns `16 j …`: the strip there, what it
    read before elsewhere. -/
theorem read_strip {κ : Kind} {sp : Space} (b : View sig κ sp S64x256 .f32) (f : b.ty.Contents (Elt F)) (off : Fin 2 → ℕ) (t j : ℕ)
    (hoff : off = ![t, 16 * j]) (inb : ∀ a, off a + S1x16.size a ≤ S64x256.size a) (w : S1x16.Idx → F .f32) (y : S64x256.Idx) :
    b.read (Elt F) (b.writes (Elt F) f [⟨Rect.unit (s := S64x256) off S1x16.size inb, w⟩]) y
      = if (y 0).val = t ∧ (y 1).val / 16 = j then w (stripIdx (y 1).val) else b.read (Elt F) f y := by
  subst hoff
  split
  · next hin =>
    refine View.read_writes_cons_hit_of_coords b f (Rect.unit (s := S64x256) ![t, 16 * j] S1x16.size inb) w [] (stripIdx (y 1).val) y ?_
    intro a
    match a with
    | 0 => show (y 0).val = t + 1 * 0; omega
    | 1 => show (y 1).val = 16 * j + 1 * ((y 1).val % 16); omega
  · next hin =>
    rw [View.writes_cons, View.writes_nil, View.read_slice_write_of_not_mem]
    rw [Rect.map_emb_univ]
    by_cases hr : (y 0).val = t
    · exact Rect.not_mem_set_of_axis _ y 1 (16 * j) 16 rfl rfl rfl (by omega)
    · exact Rect.not_mem_set_of_axis _ y 0 t 1 rfl rfl rfl (by omega)

/-- One store of trip `t`, its strip that of `G`: one strip more is done. -/
theorem wp_putStrip {α : Type} (G : S64x256.Idx → F .f32) (off : Fin 2 → ℕ) (t j : ℕ) (hj : j < 16)
    (hoff : off = ![t, 16 * j]) (inb : ∀ a, off a + S1x16.size a ≤ S64x256.size a) (w : FVec F S16 .f32)
    (hw : ∀ (y : S64x256.Idx), (y 0).val = t → (y 1).val / 16 = j → w (lane (y 1).val) = G y)
    {k : PUnit → Prog (TE F c s) α} {Q : α → sProp 𝕄} :
    stripsAt c s d ob G (16 * t + j)
      ⊢ iprop((stripsAt c s d ob G (16 * t + j + 1)
          -∗ wp frame (wpE (defs₀ (F := F)) 𝒱₀ (V d c s) none) Set.univ (k ⟨⟩) Q)
        -∗ wp frame (wpE (defs₀ (F := F)) 𝒱₀ (V d c s) none) Set.univ (putStrip ob off inb w >>= k) Q) := by
  have hr : ∀ f : Buf (Elt F) (ob.view.loc (V d c s)), (∀ y : S64x256.Idx, 16 * (y 0).val + (y 1).val / 16 < 16 * t + j → ob.view.read (Elt F) f y = G y) →
      ∀ y : S64x256.Idx, 16 * (y 0).val + (y 1).val / 16 < 16 * t + j + 1 →
        ob.view.read (Elt F) (ob.view.writes (Elt F) f [⟨Rect.unit (s := S64x256) off S1x16.size inb, shapeCast S1x16 w shapeCasts_S16_S1x16⟩]) y = G y := by
    intro f hf y hy
    have h1 : (y 1).val < 256 := (y 1).isLt
    rw [read_strip ob.view f off t j hoff inb]
    split
    · next hin => rw [shapeCast_strip]; exact hw y hin.1 hin.2
    · next hin => exact hf y (by omega)
  simp only [putStrip, Prog.lift, Prog.bind_op, Prog.bind_ret]
  unfold stripsAt
  iintro ⟨%f, Hf, %hf⟩ Hk
  iapply (wp_load 𝒱₀ (V d c s) none Set.univ (m := ob) (S := Finset.univ) (Finset.subset_univ _)) $$ Hf; iintro Hf
  iapply (wp_store_writes₀ 𝒱₀ (V d c s) none Set.univ (m := ob) (r := Rect.unit (s := S64x256) off S1x16.size inb)
    (w := shapeCast S1x16 w shapeCasts_S16_S1x16) (f := f) (k := k) (S := Finset.univ) (Finset.subset_univ _)) $$ Hf; iintro Hf
  iapply Hk
  iexists (ob.view.writes (Elt F) f [⟨Rect.unit (s := S64x256) off S1x16.size inb, shapeCast S1x16 w shapeCasts_S16_S1x16⟩])
  isplitl [Hf]; · iexact Hf
  ipureintro
  exact hr f hf

/-- The last `n` stores of trip `t`, the products those of the chunk `X`; `R` is kept. -/
theorem wp_putRow (R : sProp 𝕄) (X : S1024.Idx → F .f32) (t : Fin k0_t1_loop.trips) : ∀ (n : ℕ) (h : n ≤ 16),
    iprop(R ∗ stripsAt c s d ob (chunkVal X v) (16 * t.val + (16 - n)))
      ⊢ wp frame (wpE (defs₀ (F := F)) 𝒱₀ (V d c s) none) Set.univ (putRow ob t (hiOf X v t.val) (loOf X v t.val) n h)
          fun _ => iprop(R ∗ stripsAt c s d ob (chunkVal X v) (16 * (t.val + 1))) := by
  intro n
  induction n with
  | zero =>
    intro h
    rw [putRow, wp_ret, show 16 * t.val + (16 - 0) = 16 * (t.val + 1) by omega]
    iintro H
    imodintro
    iexact H
  | succ n ih =>
    intro h
    have hw : ∀ y : S64x256.Idx, (y 0).val = t.val → (y 1).val / 16 = 15 - n →
        strip (hiOf X v t.val) (loOf X v t.val) ⟨15 - n, by omega⟩ (lane (y 1).val) = chunkVal X v y := by
      intro y h0 h1
      show FloatOps.mulf (hiOf X v t.val _) (loOf X v t.val _) = FloatOps.mulf (hiOf X v (y 0).val (lane ((y 1).val / 16))) (loOf X v (y 0).val (lane ((y 1).val % 16)))
      have e1 : lane ((y 1).val % 16) = lane (y 1).val := by
        funext a; match a with | 0 => exact Fin.ext (Nat.mod_mod _ _)
      rw [h0, h1, e1]
      refine congrArg (fun z => FloatOps.mulf (hiOf X v t.val z) _) ?_
      funext a
      match a with
      | 0 => exact Fin.ext (by show 15 - n + 0 = (15 - n) % 16; omega)
    have hj : 15 - n < 16 := by omega
    have e2 : 16 * t.val + (16 - (n + 1)) = 16 * t.val + (15 - n) := by omega
    have e3 : 16 * t.val + (16 - n) = 16 * t.val + (15 - n) + 1 := by omega
    rw [putRow, e2]
    rw [e3] at ih
    iintro ⟨HR, H⟩
    iapply (wp_putStrip d ob (chunkVal X v) (rowOff t ⟨15 - n, hj⟩) t.val (15 - n) hj (rowOff_eq t ⟨15 - n, hj⟩)
      (rowOff_inb t ⟨15 - n, hj⟩) _ hw) $$ H
    iintro H
    iapply (ih (Nat.le_of_succ_le h))
    isplitl [HR]; · iexact HR
    iexact H

/-- Trip `t`: the chunk is read, and row `t` of the staging buffer is done. -/
theorem wp_rowProg (hv : ∀ j x, (v j x).toNat < 16) (t : Fin k0_t1_loop.trips) (fx : Buf (Elt F) (xb.view.loc (V d c s))) :
    iprop((xb.view.loc (V d c s) ↦{fullShare} fx) ∗ stripsAt c s d ob (chunkVal (xb.view.read (Elt F) fx) v) (16 * t.val))
      ⊢ wp frame (wpE (defs₀ (F := F)) 𝒱₀ (V d c s) none) Set.univ (rowProg xb ob v t)
          fun _ => iprop((xb.view.loc (V d c s) ↦{fullShare} fx) ∗ (stripsAt c s d ob (chunkVal (xb.view.read (Elt F) fx) v) (16 * (t.val + 1)) : sProp 𝕄)) := by
  unfold rowProg
  iintro ⟨Hx, Ho⟩
  iapply (wp_gatherAt d xb (v 0) t (hv 0)) $$ Hx; iintro Hx
  iapply (wp_gatherAt d xb (v 1) t (hv 1)) $$ Hx; iintro Hx
  iapply (wp_gatherAt d xb (v 2) t (hv 2)) $$ Hx; iintro Hx
  iapply (wp_gatherAt d xb (v 3) t (hv 3)) $$ Hx; iintro Hx
  iapply (wp_gatherAt d xb (v 4) t (hv 4)) $$ Hx; iintro Hx
  iapply (wp_gatherAt d xb (v 5) t (hv 5)) $$ Hx; iintro Hx
  iapply (wp_gatherAt d xb (v 6) t (hv 6)) $$ Hx; iintro Hx
  iapply (wp_gatherAt d xb (v 7) t (hv 7)) $$ Hx; iintro Hx
  iapply (wp_putRow d ob v (xb.view.loc (V d c s) ↦{fullShare} fx) (xb.view.read (Elt F) fx) t 16 le_rfl)
  isplitl [Hx]; · iexact Hx
  iexact Ho

/-- The loop over a chunk's rows: the chunk is read, and the staging buffer holds the chunk's rows. -/
theorem wp_rowLoop (hv : ∀ j x, (v j x).toNat < 16) (fx : Buf (Elt F) (xb.view.loc (V d c s))) {α : Type} (init : BitVec 32)
    {k : BitVec 32 → Prog (TE F c s) α} {Q : α → sProp 𝕄} :
    iprop((xb.view.loc (V d c s) ↦{fullShare} fx) ∗ ∃ f, ob.view.loc (V d c s) ↦{fullShare} f)
      ⊢ iprop((∀ acc, (iprop((xb.view.loc (V d c s) ↦{fullShare} fx)
            ∗ ∃ f, (ob.view.loc (V d c s) ↦{fullShare} f) ∗ ⌜ob.view.read (Elt F) f = chunkVal (xb.view.read (Elt F) fx) v⌝))
          -∗ wp frame (wpE (defs₀ (F := F)) 𝒱₀ (V d c s) none) Set.univ (k acc) Q)
        -∗ wp frame (wpE (defs₀ (F := F)) 𝒱₀ (V d c s) none) Set.univ
            (Scf.Loop.for k0_t1_loop k0_t1_ok init (fun t _ => rowProg xb ob v t) >>= k) Q) := by
  iintro ⟨Hx, %f, Ho⟩ Hk
  iapply (Scf.wp_for_bind frame (wpE (defs₀ (F := F)) 𝒱₀ (V d c s) none) Set.univ k0_t1_loop.lb k0_t1_loop.ub k0_t1_loop.st k0_t1_ok init _
    (fun t _ => iprop((xb.view.loc (V d c s) ↦{fullShare} fx) ∗ stripsAt c s d ob (chunkVal (xb.view.read (Elt F) fx) v) (16 * t)))
    (fun t _ => wp_rowProg d xb ob v hv t fx)) $$ [Hx Ho]
  · isplitl [Hx]; · iexact Hx
    unfold stripsAt
    iexists f
    isplitl [Ho]; · iexact Ho
    ipureintro
    intro y hy
    omega
  iintro %acc ⟨Hx, Ho⟩
  unfold stripsAt
  icases Ho with ⟨%g, Ho, %hg⟩
  iapply Hk
  isplitl [Hx]; · iexact Hx
  iexists g
  isplitl [Ho]; · iexact Ho
  ipureintro
  funext y
  refine hg y ?_
  have h0 : (y 0).val < 64 := (y 0).isLt
  have h1 : (y 1).val < 256 := (y 1).isLt
  show _ < 16 * 64
  omega

end Run

end Cert.KernelIdeal.Rules
-- ==== Proof.KernelIdeal.Steps.lean ====
/-
  The tile's program, written once as a pipeline over its eight chunks. Chunk `r` uses the input and the
  staging buffer of its parity (`xb r`, `ob r`) and the output copies' semaphore of its parity (`sOut r`). A middle
  step starts the input copy of the next chunk, waits for the output copy of the chunk two before, runs the
  loop over the rows, starts the chunk's output copy and waits for the next input; the five middle steps are one
  recursion (`midSteps`). `body_eq` shows the printed kernel to be this program.
-/
module

public import proofs.«01_k».proof.Proof.KernelIdeal.Row

@[expose] public section

set_option maxRecDepth 16384

noncomputable section

namespace Cert.KernelIdeal.Rules

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- `a` at the even numbers, `b` at the odd ones. -/
def par {α : Type} (a b : α) : ℕ → α
  | 0 => a
  | 1 => b
  | n + 2 => par a b n

/-- What both of two things have, the one taken by parity has. -/
theorem par_ind {α : Type} {p : α → Prop} {a b : α} (ha : p a) (hb : p b) : ∀ n, p (par a b n)
  | 0 => ha
  | 1 => hb
  | n + 2 => par_ind ha hb n

/-- The flattened input, the table of offsets and the result, in HBM. -/
abbrev xH : Memref sig .scVector .hbm S262144 .f32 := Memref.whole main_v18_scv
abbrev tH : Memref sig .scVector .hbm S8x16 .i32 := Memref.whole main_v17_scv
abbrev oH : Memref sig .scVector .hbm S16384x256 .f32 := Memref.whole main_v19_scv
/-- The tile's copy of the table. -/
abbrev tb : Memref sig .scVector .vmem S8x16 .i32 := Memref.whole cc0_scratch4
/-- The input buffer of chunk `r`. -/
abbrev xb (r : ℕ) : Memref sig .scVector .vmem S1024 .f32 := par (Memref.whole cc0_scratch0) (Memref.whole cc0_scratch1) r
/-- The staging buffer of chunk `r`. -/
abbrev ob (r : ℕ) : Memref sig .scVector .vmem S64x256 .f32 := par (Memref.whole cc0_scratch2) (Memref.whole cc0_scratch3) r
/-- The input copies' semaphore, the output copies' of chunk `r`, and the table's. -/
abbrev sIn : DmaSems sig S_ := cc0_scratch5
abbrev sOut (r : ℕ) : DmaSems sig S_ := par cc0_scratch6 cc0_scratch7 r
abbrev sTab : DmaSems sig S_ := cc0_scoped0

/-- The input buffer of a chunk is a whole buffer, -/
theorem xb_whole (r : ℕ) : (xb r).IsWhole := par_ind (p := fun m : Memref sig .scVector .vmem S1024 .f32 => m.IsWhole) (Memref.isWhole_whole _) (Memref.isWhole_whole _) r
/-- and so is its staging buffer. -/
theorem ob_whole (r : ℕ) : (ob r).IsWhole := par_ind (p := fun m : Memref sig .scVector .vmem S64x256 .f32 => m.IsWhole) (Memref.isWhole_whole _) (Memref.isWhole_whole _) r

section Prog

variable (i : grid0.Coords)

/-- The tile's SparseCore and subcore. -/
abbrev cOf : Fin τ.nSC := (i 0).castLE hcore0
abbrev sOf : Fin τ.nSub := (i 1).castLE hsub0

/-- Chunk `r`'s words of the input, and its rows of the result. -/
def xSlice (r : ℕ) (h : r < 8) : Memref sig .scVector .hbm S1024 .f32 :=
  xH.slice (Rect.unit (s := S262144) (k0_off1 i (BitVec.ofNat 32 (64 * r))) S1024.size (k0_off1_inb i ⟨r, h⟩)) (fun _ => rfl)
def oSlice (r : ℕ) (h : r < 8) : Memref sig .scVector .hbm S64x256 .f32 :=
  oH.slice (Rect.unit (s := S16384x256) (k0_off18 i (BitVec.ofNat 32 (64 * r))) S64x256.size (k0_off18_inb i ⟨r, h⟩)) (fun _ => rfl)
/-- The rows the output waits name: the tile's first sixty-four. -/
def oHead : Memref sig .scVector .hbm S64x256 .f32 :=
  oH.slice (Rect.unit (s := S16384x256) (k0_off35 i) S64x256.size (k0_off35_inb i)) (fun _ => rfl)

def tabStart : Prog (TE F (cOf i) (sOf i)) PUnit :=
  .lift (.enqueueDma tH (.here tb) (.dma sTab.sem) (Memref.isWhole_whole _).wordExact (Memref.isWhole_whole _).wordExact ⟨Or.inl rfl, trivial⟩)
def tabWait : Prog (TE F (cOf i) (sOf i)) PUnit :=
  .lift (.waitDma2 sTab.sem tH tb (Memref.isWhole_whole _).wordExact (Memref.isWhole_whole _).wordExact)
/-- Row `j` of the table. -/
def tabLoad (j : ℕ) (inb : ∀ a, (![j, 0] : Fin 2 → ℕ) a + S1x16.size a ≤ S8x16.size a) : Prog (TE F (cOf i) (sOf i)) (Vec F S1x16 .i32) :=
  .lift (.load tb (Rect.unit (s := S8x16) ![j, 0] S1x16.size inb).toLoadRect (View.loadsAt_vmem h_S1x16))
def inStart (r : ℕ) (h : r < 8) : Prog (TE F (cOf i) (sOf i)) PUnit :=
  .lift (.enqueueDma (xSlice i r h) (.here (xb r)) (.dma sIn.sem) (View.wordExact_bits rfl) (xb_whole r).wordExact ⟨Or.inl rfl, trivial⟩)
def inWait (r : ℕ) (h : r < 8) : Prog (TE F (cOf i) (sOf i)) PUnit :=
  .lift (.waitDma2 sIn.sem (xSlice i r h) (xb r) (View.wordExact_bits rfl) (xb_whole r).wordExact)
def outStart (r : ℕ) (h : r < 8) : Prog (TE F (cOf i) (sOf i)) PUnit :=
  .lift (.enqueueDma (ob r) (.here (oSlice i r h)) (.dma (sOut r).sem) (ob_whole r).wordExact (View.wordExact_bits rfl) ⟨Or.inl rfl, trivial⟩)
def outWait (r : ℕ) : Prog (TE F (cOf i) (sOf i)) PUnit :=
  .lift (.waitDma2 (sOut r).sem (ob r) (oHead i) (ob_whole r).wordExact (View.wordExact_bits rfl))
/-- The loop over chunk `r`'s rows. -/
def compute (v : Fin 8 → IVec S16 32) (r : ℕ) : Prog (TE F (cOf i) (sOf i)) (BitVec 32) :=
  Scf.Loop.for k0_t1_loop k0_t1_ok 0#32 (fun t _ => rowProg (xb r) (ob r) v t)

/-- The steps of chunks `r … r + n - 1`, each with an output copy of its parity under way before and after it. -/
def midSteps (v : Fin 8 → IVec S16 32) (K : Prog (TE F (cOf i) (sOf i)) PUnit) : (n r : ℕ) → r + n < 8 → Prog (TE F (cOf i) (sOf i)) PUnit
  | 0, _, _ => K
  | n + 1, r, h => do
    inStart i (r + 1) (by omega)
    outWait i r
    let _ ← compute i v r
    outStart i r (by omega)
    inWait i (r + 1) (by omega)
    midSteps v K n (r + 1) (by omega)

/-- All eight chunks, the first input already in. -/
def chunks (v : Fin 8 → IVec S16 32) : Prog (TE F (cOf i) (sOf i)) PUnit := do
  inStart i 1 (by omega)
  let _ ← compute i v 0
  outStart i 0 (by omega)
  inWait i 1 (by omega)
  inStart i 2 (by omega)
  let _ ← compute i v 1
  outStart i 1 (by omega)
  inWait i 2 (by omega)
  midSteps i v
    (do
      outWait i 7
      let _ ← compute i v 7
      outStart i 7 (by omega)
      outWait i 6
      outWait i 7
      .ret ⟨⟩)
    5 2 (by omega)

/-- The tile's program. -/
def rulesProg : Prog (TE F (cOf i) (sOf i)) PUnit := do
  tabStart i
  tabWait i
  let u0 ← tabLoad i 0 inb_S8x16_S1x16_0_0
  let u1 ← tabLoad i 1 inb_S8x16_S1x16_1_0
  let u2 ← tabLoad i 2 inb_S8x16_S1x16_2_0
  let u3 ← tabLoad i 3 inb_S8x16_S1x16_3_0
  let u4 ← tabLoad i 4 inb_S8x16_S1x16_4_0
  let u5 ← tabLoad i 5 inb_S8x16_S1x16_5_0
  let u6 ← tabLoad i 6 inb_S8x16_S1x16_6_0
  let u7 ← tabLoad i 7 inb_S8x16_S1x16_7_0
  inStart i 0 (by omega)
  inWait i 0 (by omega)
  chunks i fun j => shapeCast S16 ((![u0, u1, u2, u3, u4, u5, u6, u7] : Fin 8 → Vec F S1x16 .i32) j) shapeCasts_S1x16_S16

set_option maxHeartbeats 4000000 in
/-- The printed kernel, at the arrays and the scratch it is launched with, is the tile's program. -/
theorem body_eq :
    cc0_rules_kernel (F := F) i xH (Memref.isWhole_whole _) tH (Memref.isWhole_whole _) oH (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scoped0
      = rulesProg (F := F) i := by
  rw [cc0_rules_kernel_eq_skeleton]
  unfold cc0_rules_kernel_skel
  simp only [k0_part25_eq_skeleton, k0_part26_eq_skeleton, k0_part27_eq_skeleton, k0_part28_eq_skeleton,
    k0_part25_skel, k0_part26_skel, k0_part27_skel, k0_part28_skel, bind_assoc, pure_bind]
  rfl

end Prog

end Cert.KernelIdeal.Rules
-- ==== Proof.KernelIdeal.Run.lean ====
/-
  The tile's run. Each operation of the program has one lemma, at a symbolic chunk: what it takes, what it gives
  back. An input copy under way holds the chunk's words of the input it reads; an output copy under way holds the
  staging buffer and the rows of the result it writes, which it delivers holding the chunk's value. The middle
  steps are run by induction.
-/
module

public import proofs.«01_k».proof.Proof.KernelIdeal.Steps

@[expose] public section

set_option maxRecDepth 16384

noncomputable section

namespace Cert.KernelIdeal.Rules

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The transfers' counters. -/
abbrev EC : UEmb Counters 𝕄 := countersEmb

section Run

variable (d : Dev nD) (i : grid0.Coords)

/-- The tile. -/
abbrev thr : Thread nD τ := V d (cOf i) (sOf i)

/-- A program of the tile, run. -/
abbrev wpT {α : Type} (p : Prog (TE F (cOf i) (sOf i)) α) (Q : α → sProp 𝕄) : sProp 𝕄 :=
  wp frame (wpE (defs₀ (F := F)) 𝒱₀ (thr d i) none) Set.univ p Q

/-- A program that returns has run. -/
theorem wpT_ret {Q : PUnit → sProp 𝕄} : Q ⟨⟩ ⊢ wpT (F := F) d i (.ret ⟨⟩) Q := by
  unfold wpT
  rw [wp_ret]
  iintro H
  imodintro
  iexact H

variable (q : PosShare TreeShare) (fx : Buf (Elt F) (xH.view.loc (thr d i))) (v : Fin 8 → IVec S16 32)
variable (O : CellTallies nD τ sig (HIx 1)) (W : Waits sig (HIx 1))

/-- The input, held for reading. -/
def xRead : sProp 𝕄 := xH.view.loc (thr d i) ↦{q} fx

/-- Chunk `r`'s words. -/
def xChunk (r : ℕ) (h : r < 8) : S1024.Idx → F .f32 := (xSlice i r h).view.read (Elt F) fx

/-- The input buffer of chunk `r`, at any contents and holding the chunk. -/
def xbAny (r : ℕ) : sProp 𝕄 := iprop(∃ f, (xb r).view.loc (thr d i) ↦{fullShare} f)
def xbHas (r : ℕ) (h : r < 8) : sProp 𝕄 :=
  iprop(∃ f, ((xb r).view.loc (thr d i) ↦{fullShare} f) ∗ ⌜(xb r).view.read (Elt F) f = xChunk d i fx r h⌝)

/-- The staging buffer of chunk `r`, at any contents and holding the chunk's value. -/
def obAny (r : ℕ) : sProp 𝕄 := iprop(∃ f, (ob r).view.loc (thr d i) ↦{fullShare} f)
def obHas (r : ℕ) (h : r < 8) : sProp 𝕄 :=
  iprop(∃ f, ((ob r).view.loc (thr d i) ↦{fullShare} f) ∗ ⌜(ob r).view.read (Elt F) f = chunkVal (xChunk d i fx r h) v⌝)

/-- Chunk `r`'s rows of the result, at any contents and holding the chunk's value. -/
def rowsAny (r : ℕ) (h : r < 8) : sProp 𝕄 :=
  iprop(∃ f, (oSlice i r h).view.loc (thr d i) ↦[(oSlice i r h).view.set]{fullShare} f)
def rowsDone (r : ℕ) (h : r < 8) : sProp 𝕄 :=
  iprop(∃ f, ((oSlice i r h).view.loc (thr d i) ↦[(oSlice i r h).view.set]{fullShare} f)
    ∗ ⌜(oSlice i r h).view.read (Elt F) f = chunkVal (xChunk d i fx r h) v⌝)

/-- What the tile owes, the waits recorded beyond `W` all at index `none`. -/
def owesT : sProp 𝕄 := iprop(∃ W', ⌜∀ p ∈ W', p ∈ W ∨ p.2 = none⌝ ∗ owes (thr d i) O W')

/-- The evidence that the tile's waits are admissible. -/
abbrev mayT : sProp 𝕄 := Transfers.MayWaits (thr d i) (none : HIx 1) O

/-- The words of an input copy and of an output copy. -/
def nIn (r : ℕ) : ℕ := (xb r).view.amount (.dma sIn.sem)
def nOut (r : ℕ) : ℕ := (oHead i).view.amount (.dma (sOut r).sem)

/-- Each moves at least one word. -/
theorem nIn_pos (r : ℕ) : 0 < nIn r := View.amount_pos (xb r).view (.dma sIn.sem) (by decide)
/-- Each moves at least one word. -/
theorem nOut_pos (r : ℕ) : 0 < nOut i r := View.amount_pos (oHead i).view (.dma (sOut r).sem) (by decide)

/-- Chunk `r`'s input copy under way, the rest of the input beside it. -/
def inFlight (r : ℕ) (h : r < 8) : sProp 𝕄 :=
  iprop(Transfers.Flight EC (thr d i) (.dma sIn.sem) (none : HIx 1) (nIn r)
      iprop(xbHas d i fx r h ∗ (xH.view.loc (thr d i) ↦[(xSlice i r h).view.set]{q} fx))
    ∗ (xH.view.loc (thr d i) ↦[Finset.univ \ (xSlice i r h).view.set]{q} fx))

/-- Chunk `r`'s output copy under way. -/
def outFlight (r : ℕ) (h : r < 8) : sProp 𝕄 :=
  Transfers.Flight EC (thr d i) (.dma (sOut r).sem) (none : HIx 1) (nOut i r) iprop(obAny d i r ∗ rowsDone d i fx v r h)

/-- One more wait at index `none` is recorded. -/
theorem owesT_insert (sm : SemLoc sig) (W' : Waits sig (HIx 1)) (hW : ∀ p ∈ W', p ∈ W ∨ p.2 = none) :
    owes (thr d i) O (insert (sm, none) W') ⊢ (owesT d i O W : sProp 𝕄) := by
  unfold owesT
  iintro H
  iexists (insert (sm, (none : HIx 1)) W' : Waits sig (HIx 1))
  isplitr
  · ipureintro
    intro p hp
    rcases Finset.mem_insert.1 hp with hp | hp
    · exact .inr (by rw [hp])
    · exact hW p hp
  · iexact H

/-- The tile has recorded some waits, all beyond `W` at index `none`. -/
theorem owesT_open : (owesT d i O W : sProp 𝕄) ⊢ iprop(∃ W', ⌜∀ p ∈ W', p ∈ W ∨ p.2 = none⌝ ∗ owes (thr d i) O W') := Entails.rfl

/-- An input copy starts. -/
theorem wp_inStart (r : ℕ) (h : r < 8) {α : Type} {k : PUnit → Prog (TE F (cOf i) (sOf i)) α} {Q : α → sProp 𝕄} :
    iprop(xRead d i q fx ∗ xbAny d i r ∗ semVal (thr d i, .dma sIn.sem) 0)
      ⊢ iprop((inFlight d i q fx r h -∗ wpT d i (k ⟨⟩) Q) -∗ wpT d i (inStart i r h >>= k) Q) := by
  have hm : ∀ fd : Buf (Elt F) ((xb r).view.loc (thr d i)),
      iprop(((xb r).view.loc (thr d i) ↦[Finset.univ]{fullShare}
            (xb r).view.write (Elt F) fd ((ReadAs.same : ReadAs (Elt F) _ _ _ _).apply ((xSlice i r h).view.read (Elt F) fx)) Finset.univ)
          ∗ ((xSlice i r h).view.loc (thr d i) ↦[(xSlice i r h).view.set]{q} fx))
        ⊢ (iprop(xbHas d i fx r h ∗ (xH.view.loc (thr d i) ↦[(xSlice i r h).view.set]{q} fx)) : sProp 𝕄) := by
    intro fd
    unfold xbHas
    iintro ⟨Ho, Hx⟩
    isplitl [Ho]
    · iexists _
      isplitl [Ho]; · iexact Ho
      ipureintro
      exact View.read_write_univ _ _
    · iexact Hx
  change _ ⊢ iprop(_ -∗ wp _ _ _ (.op (.enqueueDmaAs _ _ _ _ _ _ _) k) Q)
  unfold xRead xbAny inFlight
  iintro ⟨Hx, ⟨%fd, Hb⟩, Hs⟩ Hk
  ihave ⟨Hx, Hr⟩ := (pointsTo_split_subset (Finset.subset_univ (xSlice i r h).view.set)).1 $$ Hx
  iapply (Transfers.wp_dmaLocal EC 𝒱₀ (thr d i) none (none : HIx 1) (nIn r) rfl
    (nIn_pos r) (Finset.subset_univ _) (src := xSlice i r h) (dst := xb r) (fd := fd) (fs := fx) (q := q)) $$ [Hx Hb Hs]
  · isplitl [Hx]; · iexact Hx
    isplitl [Hb]; · iexact Hb
    iexact Hs
  iintro Hf
  iapply Hk
  isplitl [Hf]
  · iapply (Transfers.Flight_mono EC (thr d i) (hm fd)) $$ Hf
  · iexact Hr

/-- An input copy is waited for. -/
theorem wp_inWait (r : ℕ) (h : r < 8) {α : Type} {k : PUnit → Prog (TE F (cOf i) (sOf i)) α} {Q : α → sProp 𝕄} :
    iprop(mayT d i O ∗ inFlight d i q fx r h ∗ owesT d i O W)
      ⊢ iprop((iprop(xRead d i q fx ∗ xbHas d i fx r h ∗ semVal (thr d i, .dma sIn.sem) 0 ∗ owesT d i O W) -∗ wpT d i (k ⟨⟩) Q)
        -∗ wpT d i (inWait i r h >>= k) Q) := by
  change _ ⊢ iprop(_ -∗ wp _ _ _ (.op (.waitDma2 sIn.sem (xSlice i r h) (xb r) _ _) k) Q)
  unfold inFlight
  iintro ⟨Hm, ⟨Hf, Hr⟩, HO⟩ Hk
  ihave ⟨%W', %hW, HO⟩ := (owesT_open d i O W) $$ HO
  ihave Hm := (Transfers.MayWaits.elim (SemLoc.dma sIn.sem)) $$ Hm
  iapply (Transfers.wp_waitLocalO EC 𝒱₀ (thr d i) none (none : HIx 1) (N := nIn r) rfl) $$ [Hf HO Hm]
  · isplitl [Hf]; · iexact Hf
    isplitl [HO]; · iexact HO
    iexact Hm
  iintro ⟨⟨Hb, Hx⟩, Hs, HO⟩
  iapply Hk
  isplitl [Hx Hr]
  · unfold xRead
    iapply (pointsTo_split_subset (Finset.subset_univ (xSlice i r h).view.set)).2
    isplitl [Hx]; · iexact Hx
    iexact Hr
  isplitl [Hb]; · iexact Hb
  isplitl [Hs]; · iexact Hs
  iapply (owesT_insert d i O W _ W' hW) $$ HO

/-- An output copy starts. -/
theorem wp_outStart (r : ℕ) (h : r < 8) {α : Type} {k : PUnit → Prog (TE F (cOf i) (sOf i)) α} {Q : α → sProp 𝕄} :
    iprop(obHas d i fx v r h ∗ rowsAny d i r h ∗ semVal (thr d i, .dma (sOut r).sem) 0)
      ⊢ iprop((outFlight d i fx v r h -∗ wpT d i (k ⟨⟩) Q) -∗ wpT d i (outStart i r h >>= k) Q) := by
  have hm : ∀ (fb : Buf (Elt F) ((ob r).view.loc (thr d i))) (fd : Buf (Elt F) ((oSlice i r h).view.loc (thr d i))),
      (ob r).view.read (Elt F) fb = chunkVal (xChunk d i fx r h) v →
      iprop(((oSlice i r h).view.loc (thr d i) ↦[(oSlice i r h).view.set]{fullShare}
            (oSlice i r h).view.write (Elt F) fd ((ReadAs.same : ReadAs (Elt F) _ _ _ _).apply ((ob r).view.read (Elt F) fb)) Finset.univ)
          ∗ ((ob r).view.loc (thr d i) ↦[(ob r).view.set]{fullShare} fb))
        ⊢ (iprop(obAny d i r ∗ rowsDone d i fx v r h) : sProp 𝕄) := by
    intro fb fd hb
    unfold obAny rowsDone
    iintro ⟨Ho, Hx⟩
    isplitl [Hx]
    · iexists fb
      rw [(ob_whole r).set_eq_univ]
      iexact Hx
    iexists _
    isplitl [Ho]; · iexact Ho
    ipureintro
    exact (View.read_write_univ _ _).trans hb
  change _ ⊢ iprop(_ -∗ wp _ _ _ (.op (.enqueueDmaAs _ _ _ _ _ _ _) k) Q)
  unfold obHas rowsAny outFlight
  iintro ⟨⟨%fb, Hb, %hb⟩, ⟨%fd, Hd⟩, Hs⟩ Hk
  iapply (Transfers.wp_dmaLocal EC 𝒱₀ (thr d i) none (none : HIx 1) (nOut i r) rfl
    (nOut_pos i r) (Finset.Subset.refl _) (src := ob r) (dst := oSlice i r h) (fd := fd) (fs := fb) (q := fullShare)) $$ [Hb Hd Hs]
  · isplitl [Hb]
    · rw [(ob_whole r).set_eq_univ]
      iexact Hb
    isplitl [Hd]; · iexact Hd
    iexact Hs
  iintro Hf
  iapply Hk
  iapply (Transfers.Flight_mono EC (thr d i) (hm fb fd hb)) $$ Hf

/-- An output copy is waited for: its rows hold the chunk's value. -/
theorem wp_outWait (r : ℕ) (h : r < 8) {α : Type} {k : PUnit → Prog (TE F (cOf i) (sOf i)) α} {Q : α → sProp 𝕄} :
    iprop(mayT d i O ∗ outFlight d i fx v r h ∗ owesT d i O W)
      ⊢ iprop((iprop(obAny d i r ∗ rowsDone d i fx v r h ∗ semVal (thr d i, .dma (sOut r).sem) 0 ∗ owesT d i O W) -∗ wpT d i (k ⟨⟩) Q)
        -∗ wpT d i (outWait i r >>= k) Q) := by
  change _ ⊢ iprop(_ -∗ wp _ _ _ (.op (.waitDma2 (sOut r).sem (ob r) (oHead i) _ _) k) Q)
  unfold outFlight
  iintro ⟨Hm, Hf, HO⟩ Hk
  ihave ⟨%W', %hW, HO⟩ := (owesT_open d i O W) $$ HO
  ihave Hm := (Transfers.MayWaits.elim (SemLoc.dma (sOut r).sem)) $$ Hm
  iapply (Transfers.wp_waitLocalO EC 𝒱₀ (thr d i) none (none : HIx 1) (N := nOut i r) rfl) $$ [Hf HO Hm]
  · isplitl [Hf]; · iexact Hf
    isplitl [HO]; · iexact HO
    iexact Hm
  iintro ⟨⟨Hb, Hx⟩, Hs, HO⟩
  iapply Hk
  isplitl [Hb]; · iexact Hb
  isplitl [Hx]; · iexact Hx
  isplitl [Hs]; · iexact Hs
  iapply (owesT_insert d i O W _ W' hW) $$ HO

/-- The loop over a chunk's rows turns the chunk in the input buffer into its value in the staging buffer. -/
theorem wp_compute (hv : ∀ j x, (v j x).toNat < 16) (r : ℕ) (h : r < 8) {α : Type} {k : BitVec 32 → Prog (TE F (cOf i) (sOf i)) α} {Q : α → sProp 𝕄} :
    iprop(xbHas d i fx r h ∗ obAny d i r)
      ⊢ iprop((∀ acc, iprop(xbAny d i r ∗ obHas d i fx v r h) -∗ wpT d i (k acc) Q) -∗ wpT d i (compute i v r >>= k) Q) := by
  unfold xbHas obAny xbAny obHas compute
  iintro ⟨⟨%f, Hx, %hf⟩, Ho⟩ Hk
  rw [← hf]
  iapply (wp_rowLoop d (xb r) (ob r) v hv f 0#32) $$ [Hx Ho]
  · isplitl [Hx]; · iexact Hx
    iexact Ho
  iintro %acc ⟨Hx, Ho⟩
  iapply Hk $$ %acc
  isplitl [Hx]
  · iexists f
    iexact Hx
  iexact Ho

/-! ## The steps -/

/-- The two output semaphores, the input's. -/
abbrev sInFree : sProp 𝕄 := semVal (thr d i, .dma sIn.sem) 0
abbrev sOutFree (r : ℕ) : sProp 𝕄 := semVal (thr d i, .dma (sOut r).sem) 0

/-- `P` of the chunks `r … r + n - 1`. -/
def pieces (P : (r : ℕ) → r < 8 → sProp 𝕄) : (n r : ℕ) → r + n ≤ 8 → sProp 𝕄
  | 0, _, _ => iprop(emp)
  | n + 1, r, h => iprop(P r (by omega) ∗ pieces P n (r + 1) (by omega))

/-- Before the step of chunk `r + 2`: its words are in, the output copies of the two chunks before are under way. -/
def mid (r : ℕ) (h : r + 2 < 8) : sProp 𝕄 :=
  iprop(xbHas d i fx (r + 2) h ∗ xbAny d i (r + 3) ∗ sInFree d i ∗ outFlight d i fx v r (by omega) ∗ outFlight d i fx v (r + 1) (by omega)
    ∗ xRead d i q fx ∗ owesT d i O W)

/-- The middle steps, up to chunk 6. -/
theorem wp_midSteps (hv : ∀ j x, (v j x).toNat < 16) {K : Prog (TE F (cOf i) (sOf i)) PUnit} {Q : PUnit → sProp 𝕄} :
    ∀ (n r : ℕ) (h : r + n = 5),
    iprop(mayT d i O ∗ mid d i q fx v O W r (by omega) ∗ pieces (rowsAny d i) (n + 1) (r + 2) (by omega))
      ⊢ iprop((iprop(mid d i q fx v O W 5 (by omega) ∗ rowsAny d i 7 (by omega) ∗ pieces (rowsDone d i fx v) n r (by omega)) -∗ wpT d i K Q)
        -∗ wpT d i (midSteps i v K n (r + 2) (by omega)) Q) := by
  intro n
  induction n with
  | zero =>
    intro r h
    obtain rfl : r = 5 := by omega
    unfold midSteps pieces pieces
    iintro ⟨-, Hs, Hp, -⟩ Hk
    iapply Hk
    isplitl [Hs]; · iexact Hs
    isplitl [Hp]; · iexact Hp
    iempintro
  | succ n ih =>
    intro r h
    have ih := ih (r + 1) (by omega)
    have h0 : r < 8 := by omega
    have h2 : r + 2 < 8 := by omega
    have h3 : r + 3 < 8 := by omega
    unfold midSteps pieces
    unfold mid at ih ⊢
    iintro ⟨#Hm, ⟨Hx, Hx', Hs, Hf, Hf', Hr, HO⟩, Hp, Hps⟩ Hk
    iapply (wp_inStart d i q fx (r + 3) h3) $$ [Hr Hx' Hs]
    · isplitl [Hr]; · iexact Hr
      isplitl [Hx']; · iexact Hx'
      iexact Hs
    iintro Hin
    iapply (wp_outWait d i fx v O W r h0) $$ [Hf HO]
    · isplitl []; · iexact Hm
      isplitl [Hf]; · iexact Hf
      iexact HO
    iintro ⟨Hb, Hd, Hso, HO⟩
    iapply (wp_compute d i fx v hv (r + 2) h2) $$ [Hx Hb]
    · isplitl [Hx]; · iexact Hx
      iexact Hb
    iintro %acc ⟨Hx, Hb⟩
    iapply (wp_outStart d i fx v (r + 2) h2) $$ [Hb Hp Hso]
    · isplitl [Hb]; · iexact Hb
      isplitl [Hp]; · iexact Hp
      iexact Hso
    iintro Hf
    iapply (wp_inWait d i q fx O W (r + 3) h3) $$ [Hin HO]
    · isplitl []; · iexact Hm
      isplitl [Hin]; · iexact Hin
      iexact HO
    iintro ⟨Hr, Hx', Hs, HO⟩
    iapply ih $$ [Hx Hx' Hs Hf Hf' Hr HO Hps]
    · isplitl []; · iexact Hm
      isplitr [Hps]
      · isplitl [Hx']; · iexact Hx'
        isplitl [Hx]; · iexact Hx
        isplitl [Hs]; · iexact Hs
        isplitl [Hf']; · iexact Hf'
        isplitl [Hf]; · iexact Hf
        isplitl [Hr]; · iexact Hr
        iexact HO
      · iexact Hps
    iintro ⟨Hmid, Hl, Hds⟩
    iapply Hk
    isplitl [Hmid]; · iexact Hmid
    isplitl [Hl]; · iexact Hl
    isplitl [Hd]; · iexact Hd
    iexact Hds

/-- All eight chunks: from the first chunk's words in and the result's rows at any contents to the rows holding
    the chunks' values. -/
theorem wp_chunks (hv : ∀ j x, (v j x).toNat < 16) {Q : PUnit → sProp 𝕄} :
    iprop(mayT d i O ∗ xbHas d i fx 0 (by omega) ∗ xbAny d i 1 ∗ obAny d i 0 ∗ obAny d i 1
        ∗ sInFree d i ∗ sOutFree d i 0 ∗ sOutFree d i 1 ∗ xRead d i q fx ∗ owesT d i O W ∗ pieces (rowsAny d i) 8 0 (by omega))
      ⊢ iprop((iprop(xbAny d i 0 ∗ xbAny d i 1 ∗ obAny d i 0 ∗ obAny d i 1 ∗ sInFree d i ∗ sOutFree d i 0 ∗ sOutFree d i 1
            ∗ xRead d i q fx ∗ owesT d i O W ∗ pieces (rowsDone d i fx v) 8 0 (by omega)) -∗ Q ⟨⟩)
        -∗ wpT d i (chunks i v) Q) := by
  have h0 : 0 < 8 := by omega
  have h1 : 1 < 8 := by omega
  have h2 : 2 < 8 := by omega
  have h5 : 5 < 8 := by omega
  have h6 : 6 < 8 := by omega
  have h7 : 7 < 8 := by omega
  have e8 : (pieces (rowsAny d i) 8 0 (by omega) : sProp 𝕄) ⊢ iprop(rowsAny d i 0 h0 ∗ rowsAny d i 1 h1 ∗ pieces (rowsAny d i) 6 2 (by omega)) :=
    Entails.rfl
  have e5 : (pieces (rowsDone d i fx v) 5 0 (by omega) : sProp 𝕄) ⊢ iprop(rowsDone d i fx v 0 h0 ∗ rowsDone d i fx v 1 h1 ∗ rowsDone d i fx v 2 h2
      ∗ rowsDone d i fx v 3 (by omega) ∗ rowsDone d i fx v 4 (by omega) ∗ emp) := Entails.rfl
  have e8' : iprop(rowsDone d i fx v 0 h0 ∗ rowsDone d i fx v 1 h1 ∗ rowsDone d i fx v 2 h2 ∗ rowsDone d i fx v 3 (by omega)
      ∗ rowsDone d i fx v 4 (by omega) ∗ rowsDone d i fx v 5 h5 ∗ rowsDone d i fx v 6 h6 ∗ rowsDone d i fx v 7 h7 ∗ emp)
      ⊢ (pieces (rowsDone d i fx v) 8 0 (by omega) : sProp 𝕄) := Entails.rfl
  unfold chunks
  iintro ⟨#Hm, Hx, Hx', Hb, Hb', Hs, Hso, Hso', Hr, HO, Hps⟩ Hk
  ihave ⟨Hp0, Hp1, Hps⟩ := e8 $$ Hps
  iapply (wp_inStart d i q fx 1 h1) $$ [Hr Hx' Hs]
  · isplitl [Hr]; · iexact Hr
    isplitl [Hx']; · iexact Hx'
    iexact Hs
  iintro Hin
  iapply (wp_compute d i fx v hv 0 h0) $$ [Hx Hb]
  · isplitl [Hx]; · iexact Hx
    iexact Hb
  iintro %acc ⟨Hx, Hb⟩
  iapply (wp_outStart d i fx v 0 h0) $$ [Hb Hp0 Hso]
  · isplitl [Hb]; · iexact Hb
    isplitl [Hp0]; · iexact Hp0
    iexact Hso
  iintro Hf
  iapply (wp_inWait d i q fx O W 1 h1) $$ [Hin HO]
  · isplitl []; · iexact Hm
    isplitl [Hin]; · iexact Hin
    iexact HO
  iintro ⟨Hr, Hx', Hs, HO⟩
  iapply (wp_inStart d i q fx 2 h2) $$ [Hr Hx Hs]
  · isplitl [Hr]; · iexact Hr
    isplitl [Hx]; · iexact Hx
    iexact Hs
  iintro Hin
  iapply (wp_compute d i fx v hv 1 h1) $$ [Hx' Hb']
  · isplitl [Hx']; · iexact Hx'
    iexact Hb'
  iintro %acc' ⟨Hx', Hb⟩
  iapply (wp_outStart d i fx v 1 h1) $$ [Hb Hp1 Hso']
  · isplitl [Hb]; · iexact Hb
    isplitl [Hp1]; · iexact Hp1
    iexact Hso'
  iintro Hf'
  iapply (wp_inWait d i q fx O W 2 h2) $$ [Hin HO]
  · isplitl []; · iexact Hm
    isplitl [Hin]; · iexact Hin
    iexact HO
  iintro ⟨Hr, Hx, Hs, HO⟩
  iapply (wp_midSteps d i q fx v O W hv 5 0 rfl) $$ [Hx Hx' Hs Hf Hf' Hr HO Hps]
  · isplitl []; · iexact Hm
    isplitr [Hps]
    · unfold mid
      isplitl [Hx]; · iexact Hx
      isplitl [Hx']; · iexact Hx'
      isplitl [Hs]; · iexact Hs
      isplitl [Hf]; · iexact Hf
      isplitl [Hf']; · iexact Hf'
      isplitl [Hr]; · iexact Hr
      iexact HO
    · iexact Hps
  unfold mid
  iintro ⟨⟨Hx, Hx', Hs, Hf, Hf', Hr, HO⟩, Hp, Hd⟩
  iapply (wp_outWait d i fx v O W 5 h5) $$ [Hf HO]
  · isplitl []; · iexact Hm
    isplitl [Hf]; · iexact Hf
    iexact HO
  iintro ⟨Hb, Hd5, Hso, HO⟩
  iapply (wp_compute d i fx v hv 7 h7) $$ [Hx Hb]
  · isplitl [Hx]; · iexact Hx
    iexact Hb
  iintro %acc'' ⟨Hx, Hb⟩
  iapply (wp_outStart d i fx v 7 h7) $$ [Hb Hp Hso]
  · isplitl [Hb]; · iexact Hb
    isplitl [Hp]; · iexact Hp
    iexact Hso
  iintro Hf
  iapply (wp_outWait d i fx v O W 6 h6) $$ [Hf' HO]
  · isplitl []; · iexact Hm
    isplitl [Hf']; · iexact Hf'
    iexact HO
  iintro ⟨Hb', Hd6, Hso', HO⟩
  iapply (wp_outWait d i fx v O W 7 h7) $$ [Hf HO]
  · isplitl []; · iexact Hm
    isplitl [Hf]; · iexact Hf
    iexact HO
  iintro ⟨Hb, Hd7, Hso, HO⟩
  iapply (wpT_ret d i)
  iapply Hk
  ihave ⟨Hd0, Hd1, Hd2, Hd3, Hd4, -⟩ := e5 $$ Hd
  isplitl [Hx']; · iexact Hx'
  isplitl [Hx]; · iexact Hx
  isplitl [Hb']; · iexact Hb'
  isplitl [Hb]; · iexact Hb
  isplitl [Hs]; · iexact Hs
  isplitl [Hso']; · iexact Hso'
  isplitl [Hso]; · iexact Hso
  isplitl [Hr]; · iexact Hr
  isplitl [HO]; · iexact HO
  iapply e8'
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  iempintro

/-! ## The table, and the whole program -/

/-- Row `j` of a table, as the kernel loads it. -/
def rowVec (T : S8x16.Idx → BitVec 32) (j : ℕ) (inb : ∀ a, (![j, 0] : Fin 2 → ℕ) a + S1x16.size a ≤ S8x16.size a) : Vec F S1x16 .i32 :=
  fun y => T ((Rect.unit (s := S8x16) ![j, 0] S1x16.size inb).emb y)

/-- A row of the table is loaded. -/
theorem wp_loadRow (m : Memref sig .scVector .vmem S8x16 .i32) (T : S8x16.Idx → BitVec 32) (f : Buf (Elt F) (m.view.loc (thr d i)))
    (hf : m.view.read (Elt F) f = T)
    (j : ℕ) (inb : ∀ a, (![j, 0] : Fin 2 → ℕ) a + S1x16.size a ≤ S8x16.size a) {α : Type}
    {k : Vec F S1x16 .i32 → Prog (TE F (cOf i) (sOf i)) α} {Q : α → sProp 𝕄} :
    (m.view.loc (thr d i) ↦{fullShare} f)
      ⊢ iprop(((m.view.loc (thr d i) ↦{fullShare} f) -∗ wpT d i (k (rowVec (F := F) T j inb)) Q)
        -∗ wpT d i (.op (.load m (Rect.unit (s := S8x16) ![j, 0] S1x16.size inb).toLoadRect (View.loadsAt_vmem h_S1x16)) k) Q) := by
  have e : m.view.readAt (Elt F) (Rect.unit (s := S8x16) ![j, 0] S1x16.size inb).toLoadRect f = rowVec (F := F) T j inb := by
    subst hf
    rfl
  rw [← e]
  exact wp_load 𝒱₀ (thr d i) none Set.univ (m := m) (r := (Rect.unit (s := S8x16) ![j, 0] S1x16.size inb).toLoadRect) (S := Finset.univ)
    (q := fullShare) (f := f) (k := k) (Finset.subset_univ _)

end Run

end Cert.KernelIdeal.Rules
-- ==== Proof.KernelIdeal.Tile.lean ====
/-
  The tile's whole program: the table is copied in and its eight rows are loaded, the first chunk is copied in,
  and the eight chunks run. The rows of the result end at the chunks' values by the table's offsets.
-/
module

public import proofs.«01_k».proof.Proof.KernelIdeal.Run

@[expose] public section

set_option maxRecDepth 16384

noncomputable section

namespace Cert.KernelIdeal.Rules

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (i : grid0.Coords)
variable (q : PosShare TreeShare) (fx : Buf (Elt F) (xH.view.loc (thr d i)))
variable (qt : PosShare TreeShare) (ft : Buf (Elt F) (tH.view.loc (thr d i)))
variable (O : CellTallies nD τ sig (HIx 1)) (W : Waits sig (HIx 1))

/-- The offsets as the table in HBM holds them. -/
def tabH : S8x16.Idx → BitVec 32 := tH.view.read (Elt F) ft

/-- The table, held for reading; the tile's copy of it, at any contents and filled. -/
def tRead : sProp 𝕄 := tH.view.loc (thr d i) ↦{qt} ft
def tbAny : sProp 𝕄 := iprop(∃ f, tb.view.loc (thr d i) ↦{fullShare} f)
def tbHas : sProp 𝕄 := iprop(∃ f, (tb.view.loc (thr d i) ↦{fullShare} f) ∗ ⌜tb.view.read (Elt F) f = tabH d i ft⌝)

/-- The table's copy under way. -/
def nTab : ℕ := tb.view.amount (.dma sTab.sem)
/-- It moves at least one word. -/
theorem nTab_pos : 0 < nTab := View.amount_pos tb.view (.dma sTab.sem) (by decide)
def tabFlight : sProp 𝕄 :=
  Transfers.Flight EC (thr d i) (.dma sTab.sem) (none : HIx 1) nTab iprop(tbHas d i ft ∗ tRead d i qt ft)

/-- The table's copy starts. -/
theorem wp_tabStart {α : Type} {k : PUnit → Prog (TE F (cOf i) (sOf i)) α} {Q : α → sProp 𝕄} :
    iprop(tRead d i qt ft ∗ tbAny d i ∗ semVal (thr d i, .dma sTab.sem) 0)
      ⊢ iprop((tabFlight d i qt ft -∗ wpT d i (k ⟨⟩) Q) -∗ wpT d i (tabStart i >>= k) Q) := by
  have hm : ∀ fd : Buf (Elt F) (tb.view.loc (thr d i)),
      iprop((tb.view.loc (thr d i) ↦[Finset.univ]{fullShare}
            tb.view.write (Elt F) fd ((ReadAs.same : ReadAs (Elt F) _ _ _ _).apply (tH.view.read (Elt F) ft)) Finset.univ)
          ∗ (tH.view.loc (thr d i) ↦[tH.view.set]{qt} ft))
        ⊢ (iprop(tbHas d i ft ∗ tRead d i qt ft) : sProp 𝕄) := by
    intro fd
    unfold tbHas tRead
    rw [(Memref.isWhole_whole main_v17_scv).set_eq_univ]
    iintro ⟨Ho, Hx⟩
    isplitl [Ho]
    · iexists _
      isplitl [Ho]; · iexact Ho
      ipureintro
      exact View.read_write_univ _ _
    · iexact Hx
  change _ ⊢ iprop(_ -∗ wp _ _ _ (.op (.enqueueDmaAs _ _ _ _ _ _ _) k) Q)
  unfold tbAny tabFlight
  iintro ⟨Hx, ⟨%fd, Hb⟩, Hs⟩ Hk
  iapply (Transfers.wp_dmaLocal EC 𝒱₀ (thr d i) none (none : HIx 1) nTab rfl
    nTab_pos (Finset.subset_univ _) (src := tH) (dst := tb) (fd := fd) (fs := ft) (q := qt)) $$ [Hx Hb Hs]
  · isplitl [Hx]
    · unfold tRead
      rw [(Memref.isWhole_whole main_v17_scv).set_eq_univ]
      iexact Hx
    isplitl [Hb]; · iexact Hb
    iexact Hs
  iintro Hf
  iapply Hk
  iapply (Transfers.Flight_mono EC (thr d i) (hm fd)) $$ Hf

/-- The table's copy is waited for. -/
theorem wp_tabWait {α : Type} {k : PUnit → Prog (TE F (cOf i) (sOf i)) α} {Q : α → sProp 𝕄} :
    iprop(mayT d i O ∗ tabFlight d i qt ft ∗ owesT d i O W)
      ⊢ iprop((iprop(tRead d i qt ft ∗ tbHas d i ft ∗ semVal (thr d i, .dma sTab.sem) 0 ∗ owesT d i O W) -∗ wpT d i (k ⟨⟩) Q)
        -∗ wpT d i (tabWait i >>= k) Q) := by
  change _ ⊢ iprop(_ -∗ wp _ _ _ (.op (.waitDma2 sTab.sem tH tb _ _) k) Q)
  unfold tabFlight
  iintro ⟨Hm, Hf, HO⟩ Hk
  ihave ⟨%W', %hW, HO⟩ := (owesT_open d i O W) $$ HO
  ihave Hm := (Transfers.MayWaits.elim (SemLoc.dma sTab.sem)) $$ Hm
  iapply (Transfers.wp_waitLocalO EC 𝒱₀ (thr d i) none (none : HIx 1) (N := nTab) rfl) $$ [Hf HO Hm]
  · isplitl [Hf]; · iexact Hf
    isplitl [HO]; · iexact HO
    iexact Hm
  iintro ⟨⟨Hb, Hx⟩, Hs, HO⟩
  iapply Hk
  isplitl [Hx]; · iexact Hx
  isplitl [Hb]; · iexact Hb
  isplitl [Hs]; · iexact Hs
  iapply (owesT_insert d i O W _ W' hW) $$ HO

/-- The offsets the kernel gathers input `j`'s lanes by, of a table `T`. -/
def tabOf (T : S8x16.Idx → BitVec 32) (j : Fin 8) : IVec S16 32 :=
  fun x => T fun | 0 => j | 1 => ⟨(x 0).val, (x 0).isLt⟩

/-- Row `j` as loaded, its unit axis dropped, is the table's row `j`. -/
theorem cast_rowVec (T : S8x16.Idx → BitVec 32) (j : Fin 8) (inb : ∀ a, (![j.val, 0] : Fin 2 → ℕ) a + S1x16.size a ≤ S8x16.size a) :
    shapeCast S16 (rowVec (F := F) T j.val inb) shapeCasts_S1x16_S16 = tabOf T j := by
  funext x
  have hk : (Shape.rowMajor S1x16 (fun | 0 => ⟨0, Nat.one_pos⟩ | 1 => ⟨(x 0).val, (x 0).isLt⟩)).val = (Shape.rowMajor S16 x).val := by
    rw [Shape.rowMajor_val_two, Shape.rowMajor_val_one]
    show 0 * 16 + (x 0).val = (x 0).val
    omega
  have e : Shape.reshapeEquiv shapeCasts_S1x16_S16 x = fun | 0 => ⟨0, Nat.one_pos⟩ | 1 => ⟨(x 0).val, (x 0).isLt⟩ :=
    Shape.reshapeEquiv_eq_of_rowMajor shapeCasts_S1x16_S16 hk
  show rowVec (F := F) T j.val inb (Shape.reshapeEquiv shapeCasts_S1x16_S16 x) = tabOf T j x
  rw [e]
  refine congrArg T ?_
  funext a
  match a with
  | 0 => exact Fin.ext (show j.val + 0 = j.val from rfl)
  | 1 => exact Fin.ext (show 0 + 1 * (x 0).val = (x 0).val by omega)

/-- The eight rows as loaded are the table's. -/
theorem rows_eq (T : S8x16.Idx → BitVec 32) :
    (fun j => shapeCast S16 ((![rowVec (F := F) T 0 inb_S8x16_S1x16_0_0, rowVec T 1 inb_S8x16_S1x16_1_0, rowVec T 2 inb_S8x16_S1x16_2_0,
      rowVec T 3 inb_S8x16_S1x16_3_0, rowVec T 4 inb_S8x16_S1x16_4_0, rowVec T 5 inb_S8x16_S1x16_5_0, rowVec T 6 inb_S8x16_S1x16_6_0,
      rowVec T 7 inb_S8x16_S1x16_7_0] : Fin 8 → Vec F S1x16 .i32) j) shapeCasts_S1x16_S16) = tabOf T := by
  funext j
  match j with
  | 0 => exact cast_rowVec T 0 _
  | 1 => exact cast_rowVec T 1 _
  | 2 => exact cast_rowVec T 2 _
  | 3 => exact cast_rowVec T 3 _
  | 4 => exact cast_rowVec T 4 _
  | 5 => exact cast_rowVec T 5 _
  | 6 => exact cast_rowVec T 6 _
  | 7 => exact cast_rowVec T 7 _

/-- The tile loads a row of its copy of the table. -/
theorem wp_tabLoad (T : S8x16.Idx → BitVec 32) (f : Buf (Elt F) (tb.view.loc (thr d i))) (hf : tb.view.read (Elt F) f = T)
    (j : ℕ) (inb : ∀ a, (![j, 0] : Fin 2 → ℕ) a + S1x16.size a ≤ S8x16.size a) {α : Type}
    {k : Vec F S1x16 .i32 → Prog (TE F (cOf i) (sOf i)) α} {Q : α → sProp 𝕄} :
    (tb.view.loc (thr d i) ↦{fullShare} f)
      ⊢ iprop(((tb.view.loc (thr d i) ↦{fullShare} f) -∗ wpT d i (k (rowVec (F := F) T j inb)) Q) -∗ wpT d i (tabLoad i j inb >>= k) Q) :=
  wp_loadRow d i tb T f hf j inb

/-- The tile's scratch: its buffers at any contents, its semaphores at zero. -/
def scratch : sProp 𝕄 :=
  iprop(xbAny d i 0 ∗ xbAny d i 1 ∗ obAny d i 0 ∗ obAny d i 1 ∗ tbAny d i
    ∗ sInFree d i ∗ sOutFree d i 0 ∗ sOutFree d i 1 ∗ semVal (thr d i, .dma sTab.sem) 0)

/-- The tile's program: it keeps the input and the table, and its rows of the result end at the chunks' values. -/
theorem wp_rules (hT : ∀ y, (tabH d i ft y).toNat < 16) {Q : PUnit → sProp 𝕄} :
    iprop(mayT d i O ∗ scratch d i ∗ xRead d i q fx ∗ tRead d i qt ft ∗ owesT d i O W ∗ pieces (rowsAny d i) 8 0 (by omega))
      ⊢ iprop((iprop(scratch d i ∗ xRead d i q fx ∗ tRead d i qt ft ∗ owesT d i O W
            ∗ pieces (rowsDone d i fx (tabOf (tabH d i ft))) 8 0 (by omega)) -∗ Q ⟨⟩)
        -∗ wpT d i (rulesProg i) Q) := by
  have h0 : 0 < 8 := by omega
  unfold rulesProg scratch
  iintro ⟨#Hm, ⟨Hx, Hx', Ho, Ho', Ht, Hs, Hso, Hso', Hst⟩, Hr, Htr, HO, Hp⟩ Hk
  iapply (wp_tabStart d i qt ft) $$ [Htr Ht Hst]
  · isplitl [Htr]; · iexact Htr
    isplitl [Ht]; · iexact Ht
    iexact Hst
  iintro Hf
  iapply (wp_tabWait d i qt ft O W) $$ [Hf HO]
  · isplitl []; · iexact Hm
    isplitl [Hf]; · iexact Hf
    iexact HO
  iintro ⟨Htr, Ht, Hst, HO⟩
  unfold tbHas
  icases Ht with ⟨%f, Ht, %hf⟩
  iapply (wp_tabLoad d i (tabH d i ft) f hf 0 inb_S8x16_S1x16_0_0) $$ Ht; iintro Ht
  iapply (wp_tabLoad d i (tabH d i ft) f hf 1 inb_S8x16_S1x16_1_0) $$ Ht; iintro Ht
  iapply (wp_tabLoad d i (tabH d i ft) f hf 2 inb_S8x16_S1x16_2_0) $$ Ht; iintro Ht
  iapply (wp_tabLoad d i (tabH d i ft) f hf 3 inb_S8x16_S1x16_3_0) $$ Ht; iintro Ht
  iapply (wp_tabLoad d i (tabH d i ft) f hf 4 inb_S8x16_S1x16_4_0) $$ Ht; iintro Ht
  iapply (wp_tabLoad d i (tabH d i ft) f hf 5 inb_S8x16_S1x16_5_0) $$ Ht; iintro Ht
  iapply (wp_tabLoad d i (tabH d i ft) f hf 6 inb_S8x16_S1x16_6_0) $$ Ht; iintro Ht
  iapply (wp_tabLoad d i (tabH d i ft) f hf 7 inb_S8x16_S1x16_7_0) $$ Ht; iintro Ht
  rw [rows_eq]
  iapply (wp_inStart d i q fx 0 h0) $$ [Hr Hx Hs]
  · isplitl [Hr]; · iexact Hr
    isplitl [Hx]; · iexact Hx
    iexact Hs
  iintro Hin
  iapply (wp_inWait d i q fx O W 0 h0) $$ [Hin HO]
  · isplitl []; · iexact Hm
    isplitl [Hin]; · iexact Hin
    iexact HO
  iintro ⟨Hr, Hx, Hs, HO⟩
  iapply (wp_chunks d i q fx (tabOf (tabH d i ft)) O W (fun j x => hT _)) $$ [Hx Hx' Ho Ho' Hs Hso Hso' Hr HO Hp]
  · isplitl []; · iexact Hm
    isplitl [Hx]; · iexact Hx
    isplitl [Hx']; · iexact Hx'
    isplitl [Ho]; · iexact Ho
    isplitl [Ho']; · iexact Ho'
    isplitl [Hs]; · iexact Hs
    isplitl [Hso]; · iexact Hso
    isplitl [Hso']; · iexact Hso'
    isplitl [Hr]; · iexact Hr
    isplitl [HO]; · iexact HO
    iexact Hp
  iintro ⟨Hx, Hx', Ho, Ho', Hs, Hso, Hso', Hr, HO, Hd⟩
  iapply Hk
  isplitl [Hx Hx' Ho Ho' Hs Hso Hso' Ht Hst]
  · isplitl [Hx]; · iexact Hx
    isplitl [Hx']; · iexact Hx'
    isplitl [Ho]; · iexact Ho
    isplitl [Ho']; · iexact Ho'
    isplitl [Ht]
    · unfold tbAny
      iexists f
      iexact Ht
    isplitl [Hs]; · iexact Hs
    isplitl [Hso]; · iexact Hso
    isplitl [Hso']; · iexact Hso'
    iexact Hst
  isplitl [Hr]; · iexact Hr
  isplitl [Htr]; · iexact Htr
  isplitl [HO]; · iexact HO
  iexact Hd

end Tile

end Cert.KernelIdeal.Rules
-- ==== Proof.KernelIdeal.Whole.lean ====
/-
  The result as one array. A tile's eight blocks of rows are one run of rows of it, and at the chunks' values
  that run holds the values of one function of the flattened input and the table.
-/
module

public import proofs.«01_k».proof.Proof.KernelIdeal.Tile

@[expose] public section

set_option maxRecDepth 16384

noncomputable section

namespace Cert.KernelIdeal.Rules

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The value -/

/-- The flattened input at word `n` of the sixteen of sample `b`. -/
def xAt (X : S262144.Idx → F .f32) (b n : ℕ) : F .f32 := X fun a => ⟨(16 * b + n) % S262144.size a, Nat.mod_lt _ (by revert a; decide)⟩

/-- The product of the factors `j`, `j + 1`, `j + 2`, `j + 3` of sample `b` at lane `l`, two and two. -/
def four (X : S262144.Idx → F .f32) (v : Fin 8 → IVec S16 32) (b l : ℕ) (j₀ j₁ j₂ j₃ : Fin 8) : F .f32 :=
  FloatOps.mulf (FloatOps.mulf (xAt X b (v j₀ (lane l)).toNat) (xAt X b (v j₁ (lane l)).toNat))
    (FloatOps.mulf (xAt X b (v j₂ (lane l)).toNat) (xAt X b (v j₃ (lane l)).toNat))

/-- The whole result: at row `b` and column `16 h + l`, the first four factors at lane `h` times the last four at lane `l`. -/
def wholeVal (X : S262144.Idx → F .f32) (v : Fin 8 → IVec S16 32) : S16384x256.Idx → F .f32 := fun y =>
  FloatOps.mulf (four X v (y 0).val ((y 1).val / 16) 0 1 2 3) (four X v (y 0).val ((y 1).val % 16) 4 5 6 7)

/-! ## The rows -/

/-- The sixty-four rows of block `r` of the tile of core `c` and subcore `s`, -/
def blockRows (c s r : ℕ) : Finset S16384x256.Idx := Finset.univ.filter fun y => (y 0).val / 64 = 16 * s + 8 * c + r
/-- the tile's five hundred and twelve rows, -/
def tileRows (c s : ℕ) : Finset S16384x256.Idx := Finset.univ.filter fun y => (y 0).val / 512 = 2 * s + c
/-- and the rows of core `c`. -/
def coreRows (c : ℕ) : Finset S16384x256.Idx := Finset.univ.filter fun y => (y 0).val / 512 % 2 = c

/-- A tile's blocks share no row -/
theorem blockRows_disjoint (c s : ℕ) : ∀ r ∈ (Finset.univ : Finset (Fin 8)), ∀ r' ∈ (Finset.univ : Finset (Fin 8)), r ≠ r' →
    Disjoint (blockRows c s r.val) (blockRows c s r'.val) := fun r _ r' _ h => Finset.disjoint_left.mpr fun y h1 h2 => by
  have e1 := (Finset.mem_filter.mp h1).2
  have e2 := (Finset.mem_filter.mp h2).2
  exact h (Fin.ext (by omega))
/-- and make up the tile's rows; -/
theorem blockRows_cover (c s : ℕ) (hc : c < 2) : (Finset.univ : Finset (Fin 8)).biUnion (fun r => blockRows c s r.val) = tileRows c s := by
  ext y
  simp only [Finset.mem_biUnion, blockRows, tileRows, Finset.mem_filter, Finset.mem_univ, true_and]
  constructor
  · rintro ⟨r, e⟩; have := r.isLt; omega
  · intro e; exact ⟨⟨(y 0).val / 64 % 8, Nat.mod_lt _ (by decide)⟩, by show _ = _ + (y 0).val / 64 % 8; omega⟩
/-- a core's tiles share no row -/
theorem tileRows_disjoint (c : ℕ) : ∀ s ∈ (Finset.univ : Finset (Fin 16)), ∀ s' ∈ (Finset.univ : Finset (Fin 16)), s ≠ s' →
    Disjoint (tileRows c s.val) (tileRows c s'.val) := fun s _ s' _ h => Finset.disjoint_left.mpr fun y h1 h2 => by
  have e1 := (Finset.mem_filter.mp h1).2
  have e2 := (Finset.mem_filter.mp h2).2
  exact h (Fin.ext (by omega))
/-- and make up the core's; -/
theorem tileRows_cover (c : ℕ) (hc : c < 2) : (Finset.univ : Finset (Fin 16)).biUnion (fun s => tileRows c s.val) = coreRows c := by
  ext y
  have hy : (y 0).val < 16384 := (y 0).isLt
  simp only [Finset.mem_biUnion, coreRows, tileRows, Finset.mem_filter, Finset.mem_univ, true_and]
  constructor
  · rintro ⟨s, e⟩; omega
  · intro e; exact ⟨⟨(y 0).val / 1024, by omega⟩, by show _ = 2 * ((y 0).val / 1024) + c; omega⟩
/-- the cores share no row -/
theorem coreRows_disjoint : ∀ c ∈ (Finset.univ : Finset (Fin 2)), ∀ c' ∈ (Finset.univ : Finset (Fin 2)), c ≠ c' →
    Disjoint (coreRows c.val) (coreRows c'.val) := fun c _ c' _ h => Finset.disjoint_left.mpr fun y h1 h2 => by
  have e1 := (Finset.mem_filter.mp h1).2
  have e2 := (Finset.mem_filter.mp h2).2
  exact h (Fin.ext (by omega))
/-- and make up the result. -/
theorem coreRows_cover : (Finset.univ : Finset (Fin 2)).biUnion (fun c => coreRows c.val) = Finset.univ := by
  ext y
  simp only [Finset.mem_biUnion, coreRows, Finset.mem_filter, Finset.mem_univ, true_and, iff_true]
  exact ⟨⟨(y 0).val / 512 % 2, Nat.mod_lt _ (by decide)⟩, rfl⟩

section Tile

variable (d : Dev nD) (i : grid0.Coords)

/-- The result's array. -/
abbrev oLoc : Loc nD τ sig := (SparseCore.T d).loc main_v19

/-- The row where a chunk's output copy starts, -/
theorem row_off (r : ℕ) (h : r < 8) : k0_off18 i (BitVec.ofNat 32 (64 * r)) = ![1024 * (i 1).val + 512 * (i 0).val + 64 * r, 0] :=
  k0_off18_eq i ⟨r, h⟩
/-- and the word where its input copy starts. -/
theorem in_off (r : ℕ) (h : r < 8) : k0_off1 i (BitVec.ofNat 32 (64 * r)) = ![16384 * (i 1).val + 8192 * (i 0).val + 1024 * r] :=
  k0_off1_eq i ⟨r, h⟩

/-- The elements the tile's slice of the result names are its block's rows. -/
theorem set_oSlice (r : ℕ) (h : r < 8) : (oSlice i r h).view.set = blockRows (i 0).val (i 1).val r := by
  show ((View.whole (main_v19_scv : Ref sig .scVector)).slice
    (Rect.unit (s := S16384x256) (k0_off18 i (BitVec.ofNat 32 (64 * r))) S64x256.size (k0_off18_inb i ⟨r, h⟩))).set = _
  rw [View.set_slice]
  refine Eq.trans Finset.map_refl ?_
  ext y
  rw [Rect.mem_set_unit, row_off i r h]
  simp only [blockRows, Finset.mem_filter, Finset.mem_univ, true_and]
  have hy1 : (y 1).val < 256 := (y 1).isLt
  constructor
  · intro e
    have e0 := e 0
    change 1024 * (i 1).val + 512 * (i 0).val + 64 * r ≤ (y 0).val ∧ (y 0).val < 1024 * (i 1).val + 512 * (i 0).val + 64 * r + 64 at e0
    omega
  · intro e a
    match a with
    | 0 =>
      show 1024 * (i 1).val + 512 * (i 0).val + 64 * r ≤ (y 0).val ∧ (y 0).val < 1024 * (i 1).val + 512 * (i 0).val + 64 * r + 64
      omega
    | 1 => exact ⟨Nat.zero_le _, by show (y 1).val < 0 + 256; omega⟩

/-- Where the tile's slice puts the element `y` of a block, -/
def oPlace (r : ℕ) (h : r < 8) (y : S64x256.Idx) : S16384x256.Idx := (oSlice i r h).view.emb y
/-- by its row and its column. -/
theorem oPlace_row (r : ℕ) (h : r < 8) (y : S64x256.Idx) : (oPlace i r h y 0).val = 1024 * (i 1).val + 512 * (i 0).val + 64 * r + (y 0).val := by
  show k0_off18 i (BitVec.ofNat 32 (64 * r)) 0 + 1 * (y 0).val = _
  rw [row_off i r h, one_mul]; rfl
/-- The column stays. -/
theorem oPlace_col (r : ℕ) (h : r < 8) (y : S64x256.Idx) : (oPlace i r h y 1).val = (y 1).val := by
  show k0_off18 i (BitVec.ofNat 32 (64 * r)) 1 + 1 * (y 1).val = _
  rw [row_off i r h, one_mul]; exact Nat.zero_add _

variable (fx : Buf (Elt F) (xH.view.loc (thr d i)))

/-- A chunk's word `16 t + n` is word `n` of its sample `t`. -/
theorem chunk_word (r : ℕ) (h : r < 8) (t n : ℕ) (ht : t < 64) (hn : n < 16) :
    xChunk d i fx r h (word (16 * t + n)) = xAt (F := F) fx (1024 * (i 1).val + 512 * (i 0).val + 64 * r + t) n := by
  have h0 : (i 0).val < 2 := (i 0).isLt
  have h1 : (i 1).val < 16 := (i 1).isLt
  refine congrArg fx (funext fun a : Fin 1 => Fin.ext ?_)
  match a with
  | 0 =>
    show k0_off1 i (BitVec.ofNat 32 (64 * r)) 0 + 1 * ((16 * t + n) % 1024) = (16 * (1024 * (i 1).val + 512 * (i 0).val + 64 * r + t) + n) % 262144
    rw [in_off i r h]
    show 16384 * (i 1).val + 8192 * (i 0).val + 1024 * r + 1 * ((16 * t + n) % 1024) = _
    omega

/-- A chunk's value is the whole result's at the chunk's rows. -/
theorem chunk_whole (v : Fin 8 → IVec S16 32) (hv : ∀ j x, (v j x).toNat < 16) (r : ℕ) (h : r < 8) (y : S64x256.Idx) :
    chunkVal (xChunk d i fx r h) v y = wholeVal (F := F) fx v (oPlace i r h y) := by
  have ht : (y 0).val < 64 := (y 0).isLt
  have hw : ∀ (j : Fin 8) (l : ℕ), lanes (xChunk d i fx r h) (v j) (y 0).val (lane l)
      = xAt (F := F) fx (1024 * (i 1).val + 512 * (i 0).val + 64 * r + (y 0).val) (v j (lane l)).toNat :=
    fun j l => chunk_word d i fx r h _ _ ht (hv j _)
  unfold wholeVal four
  rw [oPlace_row, oPlace_col]
  simp only [← hw]
  rfl

/-- Eight blocks, one after another, are the family of them. -/
theorem pieces_eq (P : (r : ℕ) → r < 8 → sProp 𝕄) (h : 0 + 8 ≤ 8) : pieces P 8 0 h = bigSep Finset.univ fun r : Fin 8 => P r.val r.isLt := by
  rw [show (Finset.univ : Finset (Fin 8)) = {0, 1, 2, 3, 4, 5, 6, 7} by decide]
  iterate 7 rw [SparseCore.bigSep_insert' (by decide)]
  rw [bigSep_singleton]
  show iprop(P 0 (by omega) ∗ P 1 (by omega) ∗ P 2 (by omega) ∗ P 3 (by omega) ∗ P 4 (by omega) ∗ P 5 (by omega) ∗ P 6 (by omega) ∗ P 7 (by omega) ∗ emp) = _
  rw [show iprop(P 7 (by omega) ∗ emp) = P 7 (by omega) from Entails.antisymm sep_emp.1 sep_emp.2]
  rfl

/-- A block's rows at any contents. -/
theorem block_split (f : Buf (Elt F) (oLoc d)) (r : ℕ) (h : r < 8) :
    (oLoc d ↦[blockRows (i 0).val (i 1).val r]{fullShare} f : sProp 𝕄) ⊢ rowsAny d i r h := by
  unfold rowsAny
  rw [set_oSlice]
  iintro H
  iexists f
  iexact H

/-- A block's rows at the chunk's values are at the whole result's. -/
theorem block_join (v : Fin 8 → IVec S16 32) (hv : ∀ j x, (v j x).toNat < 16) (r : ℕ) (h : r < 8) :
    (rowsDone d i fx v r h : sProp 𝕄) ⊢ oLoc d ↦[blockRows (i 0).val (i 1).val r]{fullShare} (wholeVal (F := F) fx v) := by
  unfold rowsDone
  iintro ⟨%f, H, %hf⟩
  have e : ((oSlice i r h).view.loc (thr d i) ↦[(oSlice i r h).view.set]{fullShare} f : sProp 𝕄)
      = oLoc d ↦[blockRows (i 0).val (i 1).val r]{fullShare} (wholeVal (F := F) fx v) := by
    rw [← set_oSlice i r h]
    refine pointsTo_congr (ℓ := oLoc d) fun y hy => ?_
    obtain ⟨x, -, rfl⟩ := Finset.mem_map.mp hy
    exact (congrFun hf x).trans (chunk_whole d i fx v hv r h x)
  ihave H' := (Entails.of_eq e) $$ H
  iexact H'

/-- A tile's rows are its blocks'. -/
theorem tile_blocks (f : Buf (Elt F) (oLoc d)) : (oLoc d ↦[tileRows (i 0).val (i 1).val]{fullShare} f : sProp 𝕄)
    = bigSep Finset.univ fun r : Fin 8 => oLoc d ↦[blockRows (i 0).val (i 1).val r.val]{fullShare} f := by
  rw [← blockRows_cover _ _ (i 0).isLt]
  exact pointsTo_biUnion (ℓ := oLoc d) Finset.univ (fun r : Fin 8 => blockRows (i 0).val (i 1).val r.val) (blockRows_disjoint _ _)

/-- The tile's rows at any contents are its blocks. -/
theorem rows_split (f : Buf (Elt F) (oLoc d)) (h : 0 + 8 ≤ 8) :
    (oLoc d ↦[tileRows (i 0).val (i 1).val]{fullShare} f : sProp 𝕄) ⊢ pieces (rowsAny d i) 8 0 h := by
  rw [pieces_eq, tile_blocks]
  exact bigSep_mono fun r _ => block_split d i f r.val r.isLt

/-- The blocks at the chunks' values are the tile's rows at the whole result's. -/
theorem rows_join (v : Fin 8 → IVec S16 32) (hv : ∀ j x, (v j x).toNat < 16) (h : 0 + 8 ≤ 8) :
    (pieces (rowsDone d i fx v) 8 0 h : sProp 𝕄) ⊢ oLoc d ↦[tileRows (i 0).val (i 1).val]{fullShare} (wholeVal (F := F) fx v) := by
  rw [pieces_eq, tile_blocks]
  exact bigSep_mono fun r _ => block_join d i fx v hv r.val r.isLt

end Tile

end Cert.KernelIdeal.Rules

end
-- ==== Proof.KernelIdeal.Host.lean ====
/-
  The host part of the kernel's program: the operations before the SparseCore call, as a list, and what the two
  arrays the call reads hold after them — the input flattened and the table of offsets.
-/
module

public import proofs.«01_k».proof.Proof.KernelIdeal.Tile
public import Idealize.ShloMosaic.Lib.StableHlo.Run

@[expose] public section

set_option maxRecDepth 16384

noncomputable section

namespace Cert.KernelIdeal.Rules

open Cert.KernelIdeal Cert.KernelIdeal.Gen

open Idealize.ShloMosaic Idealize.ShloMosaic.TcCoe Idealize.ShloMosaic.StableHlo
open Idealize.SL.Sem

variable {F : FTy → Type} [FloatOps F]

/-- A list of indices, four per rule, placed lane by lane: row `j` of the result is twice `off + j` plus the `j`-th index. -/
def placed (base : IVec S4 32) (mf : IVec S16x4 32) : IVec S4x16 32 :=
  addi (broadcastInDim S4x16 ![0, 1] bcast_S4x1_S4x16_0_1
      (muli (broadcastInDim S4x1 ![] bcast_S_S4x1 (constantI S_ 32 2#32)) (broadcastInDim S4x1 ![0] bcast_S4_S4x1_0 base)))
    (transpose S4x16 [1, 0] mf transposes_S16x4_S4x16_1_0)

/-- Two half tables, one above the other. -/
def stacked (a b : IVec S4x16 32) : IVec S8x16 32 :=
  concatenate S8x16 0 [⟨S4x16, a⟩, ⟨S4x16, b⟩] concatenates_S4x16_S4x16_S8x16_d0

/-- The table of offsets, of the rules' indices. -/
def tabVal (mf : IVec S256x8 32) : IVec S8x16 32 :=
  stacked (placed (iotaInDim S4 32 0) (Host.slice S16x4 ![0, 0] ![16, 1] mf slicesBy_S256x8_S16x4_0s16_0s1))
    (placed (addi (broadcastInDim S4 ![] bcast_S_S4 (constantI S_ 32 4#32)) (iotaInDim S4 32 0))
      (extractStridedSlice S16x4 ![0, 4] mf slices_S256x8_S16x4_0_4))

/-- The input, flattened. -/
def flatVal (x : FVec F S16384x8x2 .f32) : FVec F S262144 .f32 := shapeCast S262144 x shapeCasts_S16384x8x2_S262144

/-- The operations before the call. -/
def hostOps : List (HloOp τ sig (Elt F)) :=
  [ nullary main_v0 (iotaInDim S4 32 0),
    unary main_v0 main_v1 (broadcastInDim S4x1 ![0] bcast_S4_S4x1_0 : (⟨S4, .i32⟩ : BufTy).Contents (Elt F) → (⟨S4x1, .i32⟩ : BufTy).Contents (Elt F)),
    nullary main_c (constantI S_ 32 2#32),
    unary main_c main_v2 (broadcastInDim S4x1 ![] bcast_S_S4x1 : (⟨S_, .i32⟩ : BufTy).Contents (Elt F) → (⟨S4x1, .i32⟩ : BufTy).Contents (Elt F)),
    binary main_v2 main_v1 main_v3 (muli : (⟨S4x1, .i32⟩ : BufTy).Contents (Elt F) → (⟨S4x1, .i32⟩ : BufTy).Contents (Elt F) → (⟨S4x1, .i32⟩ : BufTy).Contents (Elt F)),
    unary main_arg1 main_v4 ((Host.slice S16x4 ![0, 0] ![16, 1] · slicesBy_S256x8_S16x4_0s16_0s1) : (⟨S256x8, .i32⟩ : BufTy).Contents (Elt F) → (⟨S16x4, .i32⟩ : BufTy).Contents (Elt F)),
    unary main_v4 main_v5 ((transpose S4x16 [1, 0] · transposes_S16x4_S4x16_1_0) : (⟨S16x4, .i32⟩ : BufTy).Contents (Elt F) → (⟨S4x16, .i32⟩ : BufTy).Contents (Elt F)),
    unary main_v3 main_v6 (broadcastInDim S4x16 ![0, 1] bcast_S4x1_S4x16_0_1 : (⟨S4x1, .i32⟩ : BufTy).Contents (Elt F) → (⟨S4x16, .i32⟩ : BufTy).Contents (Elt F)),
    binary main_v6 main_v5 main_v7 (addi : (⟨S4x16, .i32⟩ : BufTy).Contents (Elt F) → (⟨S4x16, .i32⟩ : BufTy).Contents (Elt F) → (⟨S4x16, .i32⟩ : BufTy).Contents (Elt F)),
    nullary main_c_0 (constantI S_ 32 4#32),
    unary main_c_0 main_v8 (broadcastInDim S4 ![] bcast_S_S4 : (⟨S_, .i32⟩ : BufTy).Contents (Elt F) → (⟨S4, .i32⟩ : BufTy).Contents (Elt F)),
    binary main_v8 main_v0 main_v9 (addi : (⟨S4, .i32⟩ : BufTy).Contents (Elt F) → (⟨S4, .i32⟩ : BufTy).Contents (Elt F) → (⟨S4, .i32⟩ : BufTy).Contents (Elt F)),
    unary main_v9 main_v10 (broadcastInDim S4x1 ![0] bcast_S4_S4x1_0 : (⟨S4, .i32⟩ : BufTy).Contents (Elt F) → (⟨S4x1, .i32⟩ : BufTy).Contents (Elt F)),
    nullary main_c_1 (constantI S_ 32 2#32),
    unary main_c_1 main_v11 (broadcastInDim S4x1 ![] bcast_S_S4x1 : (⟨S_, .i32⟩ : BufTy).Contents (Elt F) → (⟨S4x1, .i32⟩ : BufTy).Contents (Elt F)),
    binary main_v11 main_v10 main_v12 (muli : (⟨S4x1, .i32⟩ : BufTy).Contents (Elt F) → (⟨S4x1, .i32⟩ : BufTy).Contents (Elt F) → (⟨S4x1, .i32⟩ : BufTy).Contents (Elt F)),
    unary main_arg1 main_v13 ((extractStridedSlice S16x4 ![0, 4] · slices_S256x8_S16x4_0_4) : (⟨S256x8, .i32⟩ : BufTy).Contents (Elt F) → (⟨S16x4, .i32⟩ : BufTy).Contents (Elt F)),
    unary main_v13 main_v14 ((transpose S4x16 [1, 0] · transposes_S16x4_S4x16_1_0) : (⟨S16x4, .i32⟩ : BufTy).Contents (Elt F) → (⟨S4x16, .i32⟩ : BufTy).Contents (Elt F)),
    unary main_v12 main_v15 (broadcastInDim S4x16 ![0, 1] bcast_S4x1_S4x16_0_1 : (⟨S4x1, .i32⟩ : BufTy).Contents (Elt F) → (⟨S4x16, .i32⟩ : BufTy).Contents (Elt F)),
    binary main_v15 main_v14 main_v16 (addi : (⟨S4x16, .i32⟩ : BufTy).Contents (Elt F) → (⟨S4x16, .i32⟩ : BufTy).Contents (Elt F) → (⟨S4x16, .i32⟩ : BufTy).Contents (Elt F)),
    binary main_v7 main_v16 main_v17 (stacked : (⟨S4x16, .i32⟩ : BufTy).Contents (Elt F) → (⟨S4x16, .i32⟩ : BufTy).Contents (Elt F) → (⟨S8x16, .i32⟩ : BufTy).Contents (Elt F)),
    reshape main_arg0 main_v18 (rfl : (.f32 : EltTy) = .f32) shapeCasts_S16384x8x2_S262144 ]

/-- The program is the host operations, then the call. -/
theorem main_eq (d : Dev nD) : main (F := F) d = seq hostOps >>= fun _ => (sc (F := F)).run d 0 >>= fun _ => pure ⟨⟩ := rfl

variable (V : Valuation τ sig (Elt F))

/-- After them the table array holds the table of the second argument. -/
theorem after_tab : after hostOps V (main_v17 : DevRef τ sig) = tabVal (V (main_arg1 : DevRef τ sig)) := by
  unfold hostOps
  after_results_simp <;> rfl

/-- After them the flat array holds the first argument, flattened. -/
theorem after_flat : after hostOps V (main_v18 : DevRef τ sig) = flatVal (F := F) (V (main_arg0 : DevRef τ sig)) := by
  unfold hostOps
  after_results_simp <;> rfl

/-- They leave the membership values, -/
theorem after_arg0 : after hostOps V (main_arg0 : DevRef τ sig) = V (main_arg0 : DevRef τ sig) := by
  unfold hostOps
  after_results_simp <;> rfl
/-- and the rules' indices. -/
theorem after_arg1 : after hostOps V (main_arg1 : DevRef τ sig) = V (main_arg1 : DevRef τ sig) := by
  unfold hostOps
  after_results_simp <;> rfl

/-- Every operation names TensorCore arrays only, and makes no choice. -/
theorem hostOps_bufs : ∀ op ∈ (hostOps : List (HloOp τ sig (Elt F))), op.bufs ⊆ tcRefs τ sig := by
  have h : (hostOps : List (HloOp τ sig (Elt F))).Forall fun op => op.bufs ⊆ tcRefs τ sig :=
    ⟨nullary_bufs_sub .., unary_bufs_sub .., nullary_bufs_sub .., unary_bufs_sub .., binary_bufs_sub .., unary_bufs_sub .., unary_bufs_sub ..,
      unary_bufs_sub .., binary_bufs_sub .., nullary_bufs_sub .., unary_bufs_sub .., binary_bufs_sub .., unary_bufs_sub .., nullary_bufs_sub ..,
      unary_bufs_sub .., binary_bufs_sub .., unary_bufs_sub .., unary_bufs_sub .., unary_bufs_sub .., binary_bufs_sub .., binary_bufs_sub ..,
      reshape_bufs_sub ..⟩
  exact List.forall_iff_forall_mem.mp h
/-- No host operation makes a choice of its own. -/
theorem hostOps_fresh : ∀ op ∈ (hostOps : List (HloOp τ sig (Elt F))), op.fresh = ∅ := by
  have h : (hostOps : List (HloOp τ sig (Elt F))).Forall fun op => op.fresh = ∅ :=
    ⟨rfl, rfl, rfl, rfl, rfl, rfl, rfl, rfl, rfl, rfl, rfl, rfl, rfl, rfl, rfl, rfl, rfl, rfl, rfl, rfl, rfl, rfl⟩
  exact List.forall_iff_forall_mem.mp h

end Cert.KernelIdeal.Rules

end
-- ==== Proof.KernelIdeal.Launch.lean ====
/-
  The launch: what the call's two cores and their tiles are handed and hand back, each tile's task, the host program
  around the call, and the whole program's run. The result ends at one function of the two arguments.
-/
module

public import proofs.«01_k».proof.Proof.KernelIdeal.Whole
public import proofs.«01_k».proof.Proof.KernelIdeal.Host
public import Idealize.ShloMosaic.Lib.SparseCore.Ops
public import Idealize.ShloMosaic.Lib.SparseCore.Quiescent
public import Idealize.ShloMosaic.Lib.Pipeline.Kit
public import Idealize.ShloMosaic.Lib.Transfers

@[expose] public section

set_option maxRecDepth 16384

noncomputable section

namespace Cert.KernelIdeal.Rules

open Cert.KernelIdeal Cert.KernelIdeal.Gen

open Idealize.ShloMosaic Idealize.ShloMosaic.StableHlo
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The launch takes two cores, -/
theorem nCore_zero : (K (F := F)).nCore 0 = 2 := rfl
/-- sixteen tiles of each, -/
theorem nSub_zero : (K (F := F)).nSub 0 = 16 := rfl
/-- so the grid's first coordinate is below two -/
theorem bound_zero : grid0.bound 0 = 2 := rfl
/-- and its second below sixteen. -/
theorem bound_one : grid0.bound 1 = 16 := rfl

/-- The side conditions on the layout of the launch hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH 𝕄 := embL

/-! ## The launch memory, and what the arrays hold -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v18
abbrev tLoc (d : Dev nD) : Loc nD τ sig := (SparseCore.T d).loc main_v17

/-- The flattened input, the table, and the result, of the launch memory. -/
def flat (d : Dev nD) : Buf (Elt F) (xLoc d) := flatVal (F := F) (m (aLoc d))
def tab (d : Dev nD) : Buf (Elt F) (tLoc d) := tabVal (m (bLoc d))
def outVal (d : Dev nD) : Buf (Elt F) (oLoc d) := wholeVal (F := F) (flat m d) (tabOf (tab m d))

/-- What the proof asks of the launch memory: every offset of the table is one of a sample's sixteen words. -/
def PreOK : Prop := ∀ (d : Dev nD) (y : S8x16.Idx), (tabVal (m (bLoc d)) y).toNat < 16

/-! ## What the handshakes carry -/

/-- Core `c`'s share of an array all read, and its subcore `s`'s. -/
def qC (c : Fin 2) : PosShare TreeShare := Transfers.dealOf fullShare Finset.univ c
def qT (c : Fin 2) (s : Fin 16) : PosShare TreeShare := Transfers.dealOf (qC c) Finset.univ s

/-- The two arrays a tile reads, at a share. -/
def reads (d : Dev nD) (q : PosShare TreeShare) : sProp 𝕄 := iprop((xLoc d ↦{q} flat m d) ∗ tLoc d ↦{q} tab m d)

def coreIn (d : Dev nD) (c : Fin 2) : sProp 𝕄 := iprop(reads m d (qC c) ∗ ∃ f, oLoc d ↦[coreRows c.val]{fullShare} f)
def coreOut (d : Dev nD) (c : Fin 2) : sProp 𝕄 := iprop(reads m d (qC c) ∗ oLoc d ↦[coreRows c.val]{fullShare} outVal m d)
def tileIn (d : Dev nD) (c : Fin 2) (s : Fin 16) : sProp 𝕄 := iprop(reads m d (qT c s) ∗ ∃ f, oLoc d ↦[tileRows c.val s.val]{fullShare} f)
def tileOut (d : Dev nD) (c : Fin 2) (s : Fin 16) : sProp 𝕄 := iprop(reads m d (qT c s) ∗ oLoc d ↦[tileRows c.val s.val]{fullShare} outVal m d)

/-- Each core is handed a share of the two arrays and its rows of the result, each tile a share of those and its rows;
    the rows come back at the result's values. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance reads_storable (d : Dev nD) (q : PosShare TreeShare) : BI.Storable (upEmb : UEmb _ 𝕄) (reads m d q) := by unfold reads; infer_instance
instance coreIn_storable (d : Dev nD) (c : Fin 2) : BI.Storable (upEmb : UEmb _ 𝕄) (coreIn m d c) := by unfold coreIn; infer_instance
instance coreOut_storable (d : Dev nD) (c : Fin 2) : BI.Storable (upEmb : UEmb _ 𝕄) (coreOut m d c) := by unfold coreOut; infer_instance
instance tileIn_storable (d : Dev nD) (c : Fin 2) (s : Fin 16) : BI.Storable (upEmb : UEmb _ 𝕄) (tileIn m d c s) := by unfold tileIn; infer_instance
instance tileOut_storable (d : Dev nD) (c : Fin 2) (s : Fin 16) : BI.Storable (upEmb : UEmb _ 𝕄) (tileOut m d c s) := by unfold tileOut; infer_instance

instance P_storable : (P (F := F) m).IsStorable where
  st q d c := match q with | 0 => coreIn_storable m d _
  dn q d c := match q with | 0 => coreOut_storable m d _
  go q d c i := match q with | 0 => tileIn_storable m d _ _
  td q d c i := match q with | 0 => tileOut_storable m d _ _

/-! ## The task -/

section Tile

variable (d : Dev nD) (i : grid0.Coords)

abbrev cell (s : DmaSems sig S_) : GSem nD τ sig := (thr d i, .dma s.sem)

/-- The other semaphores of the tile, and its other buffers. -/
def restSems : sProp 𝕄 :=
  bigSep (((((ownCells (thr d i)).erase (cell d i cc0_scratch5)).erase (cell d i cc0_scratch6)).erase (cell d i cc0_scratch7)).erase (cell d i cc0_scoped0))
    fun g => semVal g 0
abbrev ownRef (b : Ref sig .scVector) : DevRef τ sig := (Proc.scVector (cOf i) (sOf i)).devRef b
def restBufs : sProp 𝕄 :=
  bigSep ((((((ownRefs (τ := τ) (.scVector (cOf i) (sOf i))).erase (ownRef i cc0_scratch0)).erase (ownRef i cc0_scratch1)).erase (ownRef i cc0_scratch2)).erase
    (ownRef i cc0_scratch3)).erase (ownRef i cc0_scratch4)) fun b => iprop(∃ f, ((d, b) : Loc nD τ sig) ↦{fullShare} f)

/-- Two different semaphores of a tile are different counters. -/
theorem cell_ne {s s' : DmaSems sig S_} (h : (SemLoc.dma s.sem : SemLoc sig) ≠ .dma s'.sem) : cell d i s ≠ cell d i s' :=
  fun e => h (Prod.mk.inj e).2
/-- A scoped semaphore's counter is among the tile's own. -/
theorem cell_own (s : DmaSems sig S_) (h : (SemLoc.dma s.sem : SemLoc sig).isScoped .scVector = true) : cell d i s ∈ ownCells (thr d i) :=
  (mem_ownCells (g := cell d i s)).mpr ⟨rfl, h⟩

/-- The four semaphores of the program are among the tile's own. -/
theorem ownSems0_V : (ownSems0 (thr d i) : sProp 𝕄)
    = iprop(semVal (cell d i cc0_scratch5) 0 ∗ semVal (cell d i cc0_scratch6) 0 ∗ semVal (cell d i cc0_scratch7) 0 ∗ semVal (cell d i cc0_scoped0) 0
        ∗ restSems d i) := by
  unfold SparseCore.Cfg.ownSems0 restSems
  rw [SparseCore.bigSep_erase' (cell_own d i cc0_scratch5 (by decide)),
    SparseCore.bigSep_erase' (Finset.mem_erase.mpr ⟨cell_ne d i (s := cc0_scratch6) (s' := cc0_scratch5) (by decide), cell_own d i cc0_scratch6 (by decide)⟩),
    SparseCore.bigSep_erase' (Finset.mem_erase.mpr ⟨cell_ne d i (s := cc0_scratch7) (s' := cc0_scratch6) (by decide),
      Finset.mem_erase.mpr ⟨cell_ne d i (s := cc0_scratch7) (s' := cc0_scratch5) (by decide), cell_own d i cc0_scratch7 (by decide)⟩⟩),
    SparseCore.bigSep_erase' (Finset.mem_erase.mpr ⟨cell_ne d i (s := cc0_scoped0) (s' := cc0_scratch7) (by decide),
      Finset.mem_erase.mpr ⟨cell_ne d i (s := cc0_scoped0) (s' := cc0_scratch6) (by decide),
        Finset.mem_erase.mpr ⟨cell_ne d i (s := cc0_scoped0) (s' := cc0_scratch5) (by decide), cell_own d i cc0_scoped0 (by decide)⟩⟩⟩)]

/-- Two different buffers of a tile are different on the device. -/
theorem ownRef_ne {b b' : Ref sig .scVector} (h : b ≠ b') : ownRef i b ≠ ownRef i b' := fun e => h (Proc.devRef_injective _ e)

/-- The five buffers of the program are among the tile's own. -/
theorem ownBufs_V : (ownBufs (thr d i) : sProp 𝕄)
    = iprop((∃ f, (thr d i).loc cc0_scratch0 ↦{fullShare} f) ∗ (∃ f, (thr d i).loc cc0_scratch1 ↦{fullShare} f)
        ∗ (∃ f, (thr d i).loc cc0_scratch2 ↦{fullShare} f) ∗ (∃ f, (thr d i).loc cc0_scratch3 ↦{fullShare} f)
        ∗ (∃ f, (thr d i).loc cc0_scratch4 ↦{fullShare} f) ∗ restBufs d i) := by
  have own : ∀ b : Ref sig .scVector, (ownRef i b).owner = Owner.proc (Proc.scVector (cOf i) (sOf i)) → ownRef i b ∈ ownRefs (τ := τ) (.scVector (cOf i) (sOf i)) := fun b h =>
    SparseCore.Cfg.mem_ownRefs_of_owner (p := Proc.scVector (cOf i) (sOf i)) (b := ownRef i b) h
  unfold SparseCore.Cfg.ownBufs restBufs
  refine (SparseCore.bigSep_erase' (own cc0_scratch0 rfl)).trans ?_
  rw [SparseCore.bigSep_erase' (Finset.mem_erase.mpr ⟨ownRef_ne i (b := cc0_scratch1) (b' := cc0_scratch0) (by decide), own cc0_scratch1 rfl⟩),
    SparseCore.bigSep_erase' (Finset.mem_erase.mpr ⟨ownRef_ne i (b := cc0_scratch2) (b' := cc0_scratch1) (by decide),
      Finset.mem_erase.mpr ⟨ownRef_ne i (b := cc0_scratch2) (b' := cc0_scratch0) (by decide), own cc0_scratch2 rfl⟩⟩),
    SparseCore.bigSep_erase' (Finset.mem_erase.mpr ⟨ownRef_ne i (b := cc0_scratch3) (b' := cc0_scratch2) (by decide),
      Finset.mem_erase.mpr ⟨ownRef_ne i (b := cc0_scratch3) (b' := cc0_scratch1) (by decide),
        Finset.mem_erase.mpr ⟨ownRef_ne i (b := cc0_scratch3) (b' := cc0_scratch0) (by decide), own cc0_scratch3 rfl⟩⟩⟩),
    SparseCore.bigSep_erase' (Finset.mem_erase.mpr ⟨ownRef_ne i (b := cc0_scratch4) (b' := cc0_scratch3) (by decide),
      Finset.mem_erase.mpr ⟨ownRef_ne i (b := cc0_scratch4) (b' := cc0_scratch2) (by decide),
        Finset.mem_erase.mpr ⟨ownRef_ne i (b := cc0_scratch4) (b' := cc0_scratch1) (by decide),
          Finset.mem_erase.mpr ⟨ownRef_ne i (b := cc0_scratch4) (b' := cc0_scratch0) (by decide), own cc0_scratch4 rfl⟩⟩⟩⟩)]

/-- The core and the subcore of the tile. -/
abbrev cL : Fin 2 := Fin.cast bound_zero (i 0)
abbrev sL : Fin 16 := Fin.cast bound_one (i 1)

variable (O : CellTallies nD τ sig (HIx 1)) (W : Waits sig (HIx 1))

/-- The kernel's body on a tile: from the tile's shares and rows, to the shares and the rows at the result's values. -/
theorem tile_body (hpre : PreOK m) (hO : ∀ g, O g none = 0) :
    iprop(levAts (K (F := F)).L (K (F := F)).lev ∗ iprop(emp) ∗ tileIn m d (cL i) (sL i)
        ∗ scopedBufs (thr d i) ∗ scopedSems0 (thr d i) ∗ owes (thr d i) O W)
      ⊢ wp frame (wpE (defs₀ (F := F)) 𝒱₀ (thr d i) none) Set.univ
          (cc0_rules_kernel (F := F) i xH (Memref.isWhole_whole _) tH (Memref.isWhole_whole _) oH (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scoped0)
          fun _ => iprop(tileOut m d (cL i) (sL i) ∗ scopedBufs (thr d i) ∗ scopedSems0 (thr d i)
            ∗ ∃ W', ⌜∀ p ∈ W', p ∈ W ∨ p.2 = none⌝ ∗ owes (thr d i) O W') := by
  have hT : ∀ y, (tabH d i (tab m d) y).toNat < 16 := hpre d
  have hv : ∀ j x, (tabOf (tab m d) j x).toNat < 16 := fun j x => hpre d _
  rw [body_eq, (K (F := F)).scopedBufs_V facts d (cOf i) (sOf i), SparseCore.Cfg.scopedSems0_V (Val := Elt F) d (cOf i) (sOf i), ownSems0_V, ownBufs_V]
  unfold tileIn tileOut reads
  iintro ⟨#Hlv, -, ⟨⟨Hx, Ht⟩, %f, Ho⟩, ⟨Hb0, Hb1, Hb2, Hb3, Hb4, Hbufs⟩, ⟨Hs0, Hs1, Hs2, Hs3, Hsems⟩, HO⟩
  have h8 : 0 + 8 ≤ 8 := by omega
  ihave Hps := (show (oLoc d ↦[tileRows (cL i).val (sL i).val]{fullShare} f : sProp 𝕄) ⊢ pieces (rowsAny d i) 8 0 h8 from rows_split d i f h8) $$ Ho
  iapply (wp_rules d i (qT (cL i) (sL i)) (flat m d) (qT (cL i) (sL i)) (tab m d) O W hT) $$ [Hx Ht Hps Hb0 Hb1 Hb2 Hb3 Hb4 Hs0 Hs1 Hs2 Hs3 HO]
  · isplitl []
    · iapply ((K (F := F)).mayWaits_none (thr := thr d i) hO); iexact Hlv
    isplitl [Hb0 Hb1 Hb2 Hb3 Hb4 Hs0 Hs1 Hs2 Hs3]
    · unfold scratch xbAny obAny tbAny
      isplitl [Hb0]; · iexact Hb0
      isplitl [Hb1]; · iexact Hb1
      isplitl [Hb2]; · iexact Hb2
      isplitl [Hb3]; · iexact Hb3
      isplitl [Hb4]; · iexact Hb4
      isplitl [Hs0]; · iexact Hs0
      isplitl [Hs1]; · iexact Hs1
      isplitl [Hs2]; · iexact Hs2
      iexact Hs3
    isplitl [Hx]; · unfold xRead; iexact Hx
    isplitl [Ht]; · unfold tRead; iexact Ht
    isplitl [HO]
    · unfold owesT
      iexists W
      isplitr; · ipureintro; exact fun p hp => Or.inl hp
      iexact HO
    iexact Hps
  iintro ⟨Hsc, Hx, Ht, HO, Hps⟩
  ihave Ho := (show pieces (rowsDone d i (flat m d) (tabOf (tabH d i (tab m d)))) 8 0 h8 ⊢ (oLoc d ↦[tileRows (cL i).val (sL i).val]{fullShare} outVal m d : sProp 𝕄) from rows_join d i (flat m d) (tabOf (tab m d)) hv h8) $$ Hps
  unfold scratch xbAny obAny tbAny xRead tRead owesT
  icases Hsc with ⟨Hb0, Hb1, Hb2, Hb3, Hb4, Hs0, Hs1, Hs2, Hs3⟩
  isplitl [Hx Ht Ho]
  · isplitl [Hx Ht]
    · isplitl [Hx]; · iexact Hx
      iexact Ht
    iexact Ho
  isplitl [Hb0 Hb1 Hb2 Hb3 Hb4 Hbufs]
  · isplitl [Hb0]; · iexact Hb0
    isplitl [Hb1]; · iexact Hb1
    isplitl [Hb2]; · iexact Hb2
    isplitl [Hb3]; · iexact Hb3
    isplitl [Hb4]; · iexact Hb4
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Tile

/-! ## The launch theorem's obligations -/

/-- The coordinates of a tile, by its core and its subcore. -/
def coordsV (c : Fin (grid0.bound 0)) (s : Fin (grid0.bound 1)) : grid0.Coords :=
  fun | 0 => c | 1 => s | ⟨_ + 2, h⟩ => absurd h (Nat.not_lt.2 (Nat.le_add_left _ _))

/-- The call of a tile is the kernel at its coordinates. -/
theorem defs₀_vector (c : Fin τ.nSC) (s : Fin τ.nSub) :
    defs₀ (F := F) (.scVector c s) 0 ()
      = SparseCore.onTile hcore0 hsub0 (fun c s => cc0_rules_kernel (F := F) (coordsV c s) xH (Memref.isWhole_whole _) tH (Memref.isWhole_whole _) oH (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scoped0) ⟨⟩ c s := rfl

/-- A wait at no index is, more weakly, one at no index or the launch's own. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile, called by the launch, turns what it is handed into its result. -/
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hpre hO).trans (wp_mono frame _ _ fun _ => obl_post)

/-- The arrays read, at a core's share, are the sixteen tiles'. -/
theorem reads_tiles (d : Dev nD) (c : Fin 2) : (reads m d (qC c) : sProp 𝕄) = bigSep Finset.univ fun s : Fin 16 => reads m d (qT c s) := by
  unfold reads
  rw [bigSep_sep']
  unfold qT
  rw [← Transfers.pointsTo_deal (ℓ := xLoc d) Finset.univ ⟨0, Finset.mem_univ _⟩ (qC c), ← Transfers.pointsTo_deal (ℓ := tLoc d) Finset.univ ⟨0, Finset.mem_univ _⟩ (qC c)]
/-- The arrays read, held whole, are the shares of the two cores. -/
theorem reads_cores (d : Dev nD) : (reads m d fullShare : sProp 𝕄) = bigSep Finset.univ fun c : Fin 2 => reads m d (qC c) := by
  unfold reads
  rw [bigSep_sep']
  unfold qC
  rw [← Transfers.pointsTo_deal (ℓ := xLoc d) Finset.univ ⟨0, Finset.mem_univ _⟩ fullShare, ← Transfers.pointsTo_deal (ℓ := tLoc d) Finset.univ ⟨0, Finset.mem_univ _⟩ fullShare]

/-- A core's rows are its tiles' rows, and all rows are the cores'. -/
theorem rows_tiles (d : Dev nD) (c : Fin 2) (f : Buf (Elt F) (oLoc d)) : (oLoc d ↦[coreRows c.val]{fullShare} f : sProp 𝕄)
    = bigSep Finset.univ fun s : Fin 16 => oLoc d ↦[tileRows c.val s.val]{fullShare} f := by
  rw [← tileRows_cover c.val c.isLt]
  exact pointsTo_biUnion (ℓ := oLoc d) Finset.univ (fun s : Fin 16 => tileRows c.val s.val) (tileRows_disjoint _)
/-- The whole result is the two cores' rows. -/
theorem rows_cores (d : Dev nD) (f : Buf (Elt F) (oLoc d)) : (oLoc d ↦{fullShare} f : sProp 𝕄)
    = bigSep Finset.univ fun c : Fin 2 => oLoc d ↦[coreRows c.val]{fullShare} f := by
  rw [← pointsTo_biUnion (ℓ := oLoc d) Finset.univ (fun c : Fin 2 => coreRows c.val) coreRows_disjoint, coreRows_cover]

/-- Elements held at given contents are held at some contents. -/
theorem any_of {ℓ : Loc nD τ sig} {I : Finset (Idx ℓ)} (f : Buf (Elt F) ℓ) : (ℓ ↦[I]{fullShare} f : sProp 𝕄) ⊢ iprop(∃ f, ℓ ↦[I]{fullShare} f) := by
  iintro H; iexists f; iexact H

/-- What a core is handed is its tiles' parts, and their results are its own. -/
theorem core_tiles (d : Dev nD) (c : Fin 2) : (coreIn m d c : sProp 𝕄) ⊢ iprop((bigSep Finset.univ fun s : Fin 16 => tileIn m d c s)
    ∗ ((bigSep Finset.univ fun s : Fin 16 => tileOut m d c s) -∗ coreOut m d c)) := by
  unfold coreIn coreOut tileIn tileOut
  rw [bigSep_sep', bigSep_sep', ← reads_tiles, ← rows_tiles]
  iintro ⟨Hr, %f, Ho⟩
  isplitl [Hr Ho]
  · isplitl [Hr]; · iexact Hr
    ihave Ho := (Entails.of_eq (rows_tiles d c f)) $$ Ho
    ihave Ho' := (show (bigSep Finset.univ fun s : Fin 16 => oLoc d ↦[tileRows c.val s.val]{fullShare} f : sProp 𝕄)
      ⊢ bigSep Finset.univ fun s : Fin 16 => iprop(∃ f, oLoc d ↦[tileRows c.val s.val]{fullShare} f) from bigSep_mono fun s _ => any_of f) $$ Ho
    iexact Ho'
  iintro H
  iexact H

/-- A conjunction over a core's tiles, as the launch counts them, is one over sixteen; -/
theorem bigSep_tiles (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)
/-- one over the cores is one over two. -/
theorem bigSep_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)

/-- What a core is handed divides among its tiles, and their results make up the core's. -/
theorem vecSplit : (K (F := F)).VecSplit' (P m) 0 := by
  intro d c
  show coreIn m d (Fin.cast nCore_zero c) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ coreOut m d (Fin.cast nCore_zero c)))
  rw [bigSep_tiles (F := F) (fun s => tileIn m d (Fin.cast nCore_zero c) s), bigSep_tiles (F := F) (fun s => tileOut m d (Fin.cast nCore_zero c) s)]
  iintro H
  imodintro
  iapply (core_tiles m d (Fin.cast nCore_zero c)); iexact H

/-! ## The launch element -/

/-- The element that the launch starts with. -/
def u₀ : UU := (initOf (K (F := F)).hsCells (K (F := F)).hsToks, 1)

/-- Nothing, any number of times, is nothing. -/
theorem bigSep_nothing {I : Type} (s : Finset I) : (bigSep s fun _ => iprop(emp)) = (iprop(emp) : sProp 𝕄) := bigSep_emp_const s

/-- The launch's initial element gives its handshakes, and nothing more is asked of it. -/
theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave ⟨HH, -⟩ := (ownU_pair _ _) $$ Hu
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The host program -/

/-- The launch valuation, and the arrays the call and the claim are about. -/
def V₀ (d : Dev nD) : Valuation τ sig (Elt F) := fun b => m (d, b)
abbrev tcRef (b : Ref sig .tc) : DevRef τ sig := Proc.devRef .tc b
/-- The two arguments, the flat input, the table and the result. -/
def five : Finset (DevRef τ sig) := {tcRef main_arg0, tcRef main_arg1, tcRef main_v18, tcRef main_v17, tcRef main_v19}

/-- The host's buffers at launch are those of the initial memory. -/
theorem unscoped_held (d : Dev nD) : (unscopedBufs d (fun b => m ((SparseCore.T d).loc b)) : sProp 𝕄) = held (T d) (tcRefs τ sig) (V₀ m d) := by
  unfold unscopedBufs held tcRefs
  rw [bigSep_map, show (Finset.univ.filter fun b : Ref sig .tc => ¬ b.isScoped) = Finset.univ by decide]
  rfl

/-- Of the host's buffers, the five that matter. -/
theorem held_five (d : Dev nD) (V : Valuation τ sig (Elt F)) : (held (T d) (tcRefs τ sig) V : sProp 𝕄)
    ⊢ iprop((aLoc d ↦{fullShare} V (tcRef main_arg0)) ∗ (bLoc d ↦{fullShare} V (tcRef main_arg1)) ∗ (xLoc d ↦{fullShare} V (tcRef main_v18))
        ∗ (tLoc d ↦{fullShare} V (tcRef main_v17)) ∗ oLoc d ↦{fullShare} V (tcRef main_v19)) := by
  have hs : five ⊆ tcRefs τ sig := by
    intro b hb
    simp only [five, Finset.mem_insert, Finset.mem_singleton] at hb
    rcases hb with rfl | rfl | rfl | rfl | rfl <;> exact devRef_mem_tcRefs _
  rw [held_sub_split (T d) hs]
  iintro ⟨H, -⟩
  ihave H' := (show (held (T d) five V : sProp 𝕄) ⊢ iprop((aLoc d ↦{fullShare} V (tcRef main_arg0)) ∗ (bLoc d ↦{fullShare} V (tcRef main_arg1))
      ∗ (xLoc d ↦{fullShare} V (tcRef main_v18)) ∗ (tLoc d ↦{fullShare} V (tcRef main_v17)) ∗ oLoc d ↦{fullShare} V (tcRef main_v19)) from Entails.of_eq (by
    unfold held five
    iterate 4 rw [SparseCore.bigSep_insert' (by decide)]
    rw [bigSep_singleton])) $$ H
  iexact H'

/-- What the host program leaves the claim: the arguments, and the result at its value. -/
abbrev FIN (d : Dev nD) : sProp 𝕄 :=
  iprop((aLoc d ↦{fullShare} m (aLoc d)) ∗ (bLoc d ↦{fullShare} m (bLoc d)) ∗ oLoc d ↦{fullShare} outVal m d)

/-- The arrays read and the result's array, held whole, are what the launch hands the cores, -/
theorem st_intro (d : Dev nD) (f : Buf (Elt F) (oLoc d)) :
    (iprop(reads m d fullShare ∗ oLoc d ↦{fullShare} f) : sProp 𝕄) ⊢ bigSep Finset.univ fun c : Fin ((K (F := F)).nCore 0) => (P m).st 0 d c := by
  show _ ⊢ bigSep Finset.univ fun c : Fin ((K (F := F)).nCore 0) => coreIn m d (Fin.cast nCore_zero c)
  rw [bigSep_cores (F := F) (fun c => coreIn m d c)]
  unfold coreIn
  rw [bigSep_sep', ← reads_cores, rows_cores]
  exact sep_mono_right (bigSep_mono fun c _ => any_of f)
/-- and what the cores give back is the arrays read and the result at its value. -/
theorem dn_elim (d : Dev nD) : (bigSep Finset.univ fun c : Fin ((K (F := F)).nCore 0) => (P m).dn 0 d c)
    ⊢ (iprop(reads m d fullShare ∗ oLoc d ↦{fullShare} outVal m d) : sProp 𝕄) := by
  show (bigSep Finset.univ fun c : Fin ((K (F := F)).nCore 0) => coreOut m d (Fin.cast nCore_zero c)) ⊢ _
  rw [bigSep_cores (F := F) (fun c => coreOut m d c)]
  unfold coreOut
  rw [bigSep_sep', ← reads_cores, ← rows_cores]

/-- The host program prepares the flat input and the table, launches, and leaves the arguments and the result. -/
theorem hmain (κ : GSem nD τ sig → ℕ) (d : Dev nD) :
    iprop((K (F := F)).ctx (EH (F := F)) (P m) κ ∗ (K (F := F)).tcSt (EH (F := F)) d 0 ∗ (K (F := F)).tcRes m ρ d ∗ emp)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq (defs := (K (F := F)).defs (D (F := F))) 𝒱 none Set.univ d (tcRefs τ sig) _ hostOps hostOps_bufs hostOps_fresh (V₀ m d)) $$ [Hb Hheld]
  · isplitl [Hb]; · iexact Hb
    iexact Hheld
  iintro ⟨Hb, Hheld⟩
  ihave ⟨Ha, Hbb, Hx, Ht, Ho⟩ := (held_five (F := F) d _) $$ Hheld
  rw [after_arg0, after_arg1, after_flat, after_tab]
  simp only [wp_bind, wp_pure]
  iapply ((K (F := F)).wp_run (D (F := F)) 𝒱 (EH := EH (F := F)) (P := P m) κ d 0) $$ [Hst Hx Ht Ho Ha Hbb Hb Hts]
  isplitr; · iexact Hctx
  isplitl [Hst]; · iexact Hst
  isplitl [Hx Ht Ho]
  · iapply (st_intro m d _)
    unfold reads
    isplitl [Hx Ht]
    · isplitl [Hx]; · iexact Hx
      iexact Ht
    iexact Ho
  iintro ⟨Hst, Hdn⟩
  ihave ⟨-, Ho⟩ := (dn_elim m d) $$ Hdn
  imodintro
  isplitl [Hst]; · iexact Hst
  isplitr [Hb Hts]
  · isplitl [Ha]; · iexact Ha
    isplitl [Hbb]; · iexact Hbb
    iexact Ho
  isplitl [Hb] <;> iassumption

/-- A final memory has the result at its value and the arguments as they were. -/
def fq (d : Dev nD) (s' : Phys nD τ sig (Elt F)) : Prop :=
  s'.mem.mem (oLoc d) = outVal m d ∧ s'.mem.mem (aLoc d) = m (aLoc d) ∧ s'.mem.mem (bLoc d) = m (bLoc d)

/-- What the host program leaves says what the final memory holds. -/
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := outVal m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (oLoc c) = outVal m c ∧ r.2.mem (aLoc c) = m (aLoc c) ∧ r.2.mem (bLoc c) = m (bLoc c)) ∧ r.2.sem = fun _ => 0

/-- The program runs: the result ends at its value of the arguments, which end unchanged, and every semaphore ends at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH (F := F)) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Rules

end
-- ==== Proof.KernelIdeal.Table.lean ====
/-
  The table of offsets, entry by entry, where the precondition holds: entry `j`, `l` is twice `j` plus index `j` of
  rule `16 l` (for the first four) or of rule `l` (for the last four).
-/
module

public import proofs.«01_k».proof.Proof.KernelIdeal.Host
public import proofs.«01_k».proof.Proof.Pre

@[expose] public section

noncomputable section

namespace Cert.KernelIdeal.Rules

open Cert.KernelIdeal Cert.KernelIdeal.Gen
open Idealize.ShloMosaic
open Cert.RulesPre (at2)

/-- Position `j`, `l` of a half table, and of the whole. -/
def half (j : Fin 4) (l : Fin 16) : S4x16.Idx := fun | 0 => j | 1 => l
def entry (j : Fin 8) (l : Fin 16) : S8x16.Idx := fun | 0 => j | 1 => l
/-- Position `l`, `j` of the sixteen rows of four indices. -/
def pick (l : Fin 16) (j : Fin 4) : S16x4.Idx := fun | 0 => l | 1 => j
def col (j : Fin 4) : S4x1.Idx := fun | 0 => j | 1 => ⟨0, Nat.one_pos⟩
def nth (j : Fin 4) : S4.Idx := fun | 0 => j

/-- A half table's entry: twice the input's number, and the index picked. -/
theorem placed_apply (base : IVec S4 32) (g : IVec S16x4 32) (j : Fin 4) (l : Fin 16) :
    placed base g (half j l) = 2#32 * base (nth j) + g (pick l j) := by
  have e1 : broadcastInDim S4x16 ![0, 1] bcast_S4x1_S4x16_0_1
      (muli (broadcastInDim S4x1 ![] bcast_S_S4x1 (constantI S_ 32 2#32)) (broadcastInDim S4x1 ![0] bcast_S4_S4x1_0 base)) (half j l)
      = 2#32 * broadcastInDim S4x1 ![0] bcast_S4_S4x1_0 base (col j) :=
    broadcastInDim_apply _ _ _ _ (col j) fun k => by
      match k with
      | ⟨0, _⟩ => rfl
      | ⟨1, _⟩ => rfl
  have e2 : broadcastInDim S4x1 ![0] bcast_S4_S4x1_0 base (col j) = base (nth j) :=
    broadcastInDim_apply _ _ _ _ (nth j) fun k => by
      match k with
      | ⟨0, _⟩ => rfl
  have e3 : transpose S4x16 [1, 0] g transposes_S16x4_S4x16_1_0 (half j l) = g (pick l j) :=
    transpose_apply _ _ _ _ (pick l j) fun k => by
      match k with
      | ⟨0, _⟩ => rfl
      | ⟨1, _⟩ => rfl
  show IntOp.addi _ _ = _
  rw [e1, e2, e3]
  rfl

variable (mf : IVec S256x8 32)

/-- The first half picks from rules `16 l`, inputs zero to three, -/
theorem firstPick_apply (l : Fin 16) (j : Fin 4) :
    Host.slice S16x4 ![0, 0] ![16, 1] mf slicesBy_S256x8_S16x4_0s16_0s1 (pick l j) = mf (at2 (16 * l.val) j.val) := by
  show mf _ = _
  refine congrArg mf (funext fun a => Fin.ext ?_)
  have := l.isLt; have := j.isLt
  match a with
  | ⟨0, _⟩ => show 0 + 16 * l.val = 16 * l.val % 256; omega
  | ⟨1, _⟩ => show 0 + 1 * j.val = j.val % 8; omega

/-- the last half from rules `l`, inputs four to seven. -/
theorem lastPick_apply (l : Fin 16) (j : Fin 4) :
    extractStridedSlice S16x4 ![0, 4] mf slices_S256x8_S16x4_0_4 (pick l j) = mf (at2 l.val (4 + j.val)) := by
  refine extractStridedSlice_apply _ _ _ _ _ fun a => ?_
  have := l.isLt; have := j.isLt
  match a with
  | ⟨0, _⟩ => show l.val % 256 = 0 + l.val; omega
  | ⟨1, _⟩ => show (4 + j.val) % 8 = 4 + j.val; omega

/-- The first four rows of the table, -/
theorem tab_first (j : Fin 4) (l : Fin 16) : tabVal mf (entry ⟨j.val, by omega⟩ l) = 2#32 * BitVec.ofNat 32 j.val + mf (at2 (16 * l.val) j.val) := by
  unfold tabVal stacked
  refine (concatenate_pair_apply_left (t := S8x16) (s₁ := S4x16) (s₂ := S4x16) 0 _ _ _ (entry ⟨j.val, by omega⟩ l) rfl (half j l) (fun b => by
    match b with
    | ⟨0, _⟩ => rfl
    | ⟨1, _⟩ => rfl)).trans ?_
  rw [placed_apply, firstPick_apply]
  rfl

/-- and the last four. -/
theorem tab_last (j : Fin 4) (l : Fin 16) : tabVal mf (entry ⟨4 + j.val, by omega⟩ l) = 2#32 * (4#32 + BitVec.ofNat 32 j.val) + mf (at2 l.val (4 + j.val)) := by
  unfold tabVal stacked
  refine (concatenate_pair_apply_right (t := S8x16) (s₁ := S4x16) (s₂ := S4x16) 0 _ _ _ (entry ⟨4 + j.val, by omega⟩ l) rfl rfl (half j l) (fun b hb => by
    match b with
    | ⟨0, _⟩ => exact absurd rfl hb
    | ⟨1, _⟩ => rfl) (Nat.add_comm _ _)).trans ?_
  rw [placed_apply, lastPick_apply]
  rfl

/-- The rule whose index the entry of lane `l` takes. -/
def ruleOf (j : Fin 8) (l : Fin 16) : ℕ := if j.val < 4 then 16 * l.val else l.val

/-- An entry is twice its input plus the index of the rule it takes, without wrapping. -/
theorem tab_toNat (h : ∀ y, (mf y).toNat < 2) (j : Fin 8) (l : Fin 16) : (tabVal mf (entry j l)).toNat = 2 * j.val + (mf (at2 (ruleOf j l) j.val)).toNat := by
  have hb := h (at2 (ruleOf j l) j.val)
  unfold ruleOf at *
  by_cases hj : j.val < 4
  · rw [if_pos hj] at hb ⊢
    have e := tab_first mf ⟨j.val, hj⟩ l
    rw [show (⟨(⟨j.val, hj⟩ : Fin 4).val, by omega⟩ : Fin 8) = j from rfl] at e
    rw [e]
    simp only [BitVec.toNat_add, BitVec.toNat_mul, BitVec.toNat_ofNat]
    omega
  · rw [if_neg hj] at hb ⊢
    have hk : j.val - 4 < 4 := by have := j.isLt; omega
    have hj4 : 4 + (j.val - 4) = j.val := by omega
    have e := tab_last mf ⟨j.val - 4, hk⟩ l
    rw [show (⟨4 + (⟨j.val - 4, hk⟩ : Fin 4).val, by omega⟩ : Fin 8) = j from Fin.ext hj4, hj4] at e
    rw [e]
    simp only [BitVec.toNat_add, BitVec.toNat_mul, BitVec.toNat_ofNat]
    omega

/-- Every position of the table is an entry. -/
theorem entry_eta (y : S8x16.Idx) : y = entry ⟨(y 0).val, (y 0).isLt⟩ ⟨(y 1).val, (y 1).isLt⟩ := by
  funext a
  match a with
  | ⟨0, _⟩ => rfl
  | ⟨1, _⟩ => rfl

/-- Every entry is below sixteen. -/
theorem tab_lt (h : ∀ y, (mf y).toNat < 2) (y : S8x16.Idx) : (tabVal mf y).toNat < 16 := by
  obtain ⟨j, l, rfl⟩ : ∃ j l, y = entry j l := ⟨_, _, entry_eta y⟩
  rw [tab_toNat mf h]
  have := h (at2 (ruleOf j l) j.val)
  have := j.isLt
  omega

end Cert.KernelIdeal.Rules

end
-- ==== Proof.Spec.lean ====
/-
  The result both programs compute, as plain maths: for sample `b` and rule `r`, the product over the eight inputs of
  the membership value the rule's index chooses.
-/
module

public import proofs.«01_k».proof.Proof.Pre
public import Idealize.ShloMosaic.PureOps.Ideal

@[expose] public section

noncomputable section

namespace Cert.RulesSpec

open Idealize.ShloMosaic Cert.Pre_product_rules
open Cert.RulesPre (at2)

/-- Membership value `k` of input `j` of sample `b`. -/
def atX (b j k : ℕ) : S16384x8x2.Idx := fun a => ⟨(![b, j, k] : Fin 3 → ℕ) a % S16384x8x2.size a, Nat.mod_lt _ (by revert a; decide)⟩

/-- The membership value of input `j` that rule `r` takes for sample `b`. -/
def factor {α : Type} (x : S16384x8x2.Idx → α) (mf : IVec S256x8 32) (b r j : ℕ) : α := x (atX b j (mf (at2 r j)).toNat)

/-- The product of eight. -/
def prod8 (f : ℕ → EReal) : EReal := f 0 * f 1 * f 2 * f 3 * f 4 * f 5 * f 6 * f 7

/-- Multiplied two and two, it is the same product. -/
theorem prod8_pairs (f : ℕ → EReal) : f 0 * f 1 * (f 2 * f 3) * (f 4 * f 5 * (f 6 * f 7)) = prod8 f := by
  unfold prod8
  simp only [mul_assoc]

/-- Started from one, it is the same product. -/
theorem prod8_one (f : ℕ → EReal) : 1 * f 0 * f 1 * f 2 * f 3 * f 4 * f 5 * f 6 * f 7 = prod8 f := by
  unfold prod8
  rw [one_mul]

end Cert.RulesSpec

end
-- ==== Proof.KernelIdeal.Value.lean ====
/-
  The kernel's result where the precondition holds: at sample `b` and rule `r` it is the product of the membership
  values that the rule takes.
-/
module

public import proofs.«01_k».proof.Proof.KernelIdeal.Launch
public import proofs.«01_k».proof.Proof.KernelIdeal.Table
public import proofs.«01_k».proof.Proof.Spec
public import Idealize.ShloMosaic.Lib.IdealHost

@[expose] public section

noncomputable section

namespace Cert.KernelIdeal.Rules

open Cert.KernelIdeal Cert.KernelIdeal.Gen
open Idealize.ShloMosaic
open Cert.RulesPre (at2 Holds)
open Cert.RulesSpec (atX factor prod8 prod8_pairs)

variable {F : FTy → Type} [FloatOps F]

/-- The flattened input at word `2 j + k` of sample `b`. -/
theorem xAt_flat (x : FVec F S16384x8x2 .f32) (b j k : ℕ) (hb : b < 16384) (hj : j < 8) (hk : k < 2) :
    xAt (F := F) (flatVal x) b (2 * j + k) = x (atX b j k) := by
  unfold xAt flatVal
  refine shapeCast_apply x _ _ (atX b j k) ?_
  rw [Shape.rowMajor_val_three, Shape.rowMajor_val_one]
  show (b % 16384 * 8 + j % 8) * 2 + k % 2 = (16 * b + (2 * j + k)) % 262144
  omega

variable (x : FVec F S16384x8x2 .f32) (mf : IVec S256x8 32) (h : Holds mf)

include h

/-- The factor `j` of sample `b` at lane `l`. -/
theorem xAt_tab (b l : ℕ) (j : Fin 8) (hb : b < 16384) (hl : l < 16) :
    xAt (F := F) (flatVal x) b (tabOf (tabVal mf) j (lane l)).toNat = factor x mf b (ruleOf j ⟨l, hl⟩) j.val := by
  have e : tabOf (tabVal mf) j (lane l) = tabVal mf (entry j ⟨l, hl⟩) := congrArg (tabVal mf) (funext fun a => by
    match a with
    | ⟨0, _⟩ => rfl
    | ⟨1, _⟩ => exact Fin.ext (Nat.mod_eq_of_lt hl))
  rw [e, tab_toNat mf h.lt, xAt_flat x b j.val _ hb j.isLt (h.lt _)]
  rfl

/-- The rule whose index the entry takes has there the same index as rule `16 p + q`. -/
theorem factor_first (b p q j : ℕ) (hp : p < 16) (hq : q < 16) (hj : j < 4) :
    factor x mf b (ruleOf ⟨j, by omega⟩ ⟨p, hp⟩) j = factor x mf b (16 * p + q) j := by
  unfold factor ruleOf
  rw [if_pos hj, h.first ⟨p, hp⟩ ⟨q, hq⟩ j hj]
/-- So too for the last four, by the remainder. -/
theorem factor_last (b p q j : ℕ) (hp : p < 16) (hq : q < 16) (hj : 4 ≤ j) (hj' : j < 8) :
    factor x mf b (ruleOf ⟨j, hj'⟩ ⟨q, hq⟩) j = factor x mf b (16 * p + q) j := by
  unfold factor ruleOf
  rw [if_neg (Nat.not_lt.mpr hj), h.last ⟨p, hp⟩ ⟨q, hq⟩ j hj hj']

/-- The result is the product of the eight factors. -/
theorem whole_prod (x : FVec Ideal S16384x8x2 .f32) (y : S16384x256.Idx) :
    wholeVal (F := Ideal) (flatVal x) (tabOf (tabVal mf)) y = prod8 (factor x mf (y 0).val (y 1).val) := by
  have hb : (y 0).val < 16384 := (y 0).isLt
  have hr : (y 1).val < 256 := (y 1).isLt
  have hp : (y 1).val / 16 < 16 := by omega
  have hq : (y 1).val % 16 < 16 := by omega
  have hi (j : ℕ) (hj : j < 4) : xAt (F := Ideal) (flatVal x) (y 0).val (tabOf (tabVal mf) ⟨j, by omega⟩ (lane ((y 1).val / 16))).toNat
      = factor x mf (y 0).val (y 1).val j := by
    rw [xAt_tab x mf h _ _ _ hb hp, factor_first x mf h _ _ ((y 1).val % 16) j hp hq hj, Nat.div_add_mod]
  have lo (j : ℕ) (hj : 4 ≤ j) (hj' : j < 8) : xAt (F := Ideal) (flatVal x) (y 0).val (tabOf (tabVal mf) ⟨j, hj'⟩ (lane ((y 1).val % 16))).toNat
      = factor x mf (y 0).val (y 1).val j := by
    rw [xAt_tab x mf h _ _ _ hb hq, factor_last x mf h _ ((y 1).val / 16) _ j hp hq hj hj', Nat.div_add_mod]
  rw [← prod8_pairs, ← hi 0 (by decide), ← hi 1 (by decide), ← hi 2 (by decide), ← hi 3 (by decide),
    ← lo 4 (by decide) (by decide), ← lo 5 (by decide) (by decide), ← lo 6 (by decide) (by decide), ← lo 7 (by decide) (by decide)]
  rfl

end Cert.KernelIdeal.Rules

end
-- ==== Proof.Reference.lean ====
/-
  The reference's result where the precondition holds: its gather reads, for sample `b`, rule `r` and input `j`, the
  membership value the rule takes, and the result is the product of the eight.
-/
module

public import proofs.«01_k».proof.Proof.Gen.ReferenceIdeal.Run
public import proofs.«01_k».proof.Proof.Spec
public import Idealize.ShloMosaic.Lib.IdealHost

@[expose] public section

set_option maxRecDepth 16384

noncomputable section

namespace Cert.RulesReference

open Cert.ReferenceIdeal Cert.ReferenceIdeal.Gen
open Idealize.ShloMosaic
open Cert.RulesPre (at2 at2_eta Holds)
open Cert.RulesSpec (atX factor prod8 prod8_one)

/-! ## The start indices -/

/-- The inputs' numbers, as one row. -/
def ins : IVec S1x8 32 := broadcastInDim S1x8 ![1] bcast_S8_S1x8_1 (iotaInDim S8 32 0)
/-- The same with eight added to a negative one. -/
def insWrapped : IVec S1x8 32 :=
  select (cmpi .slt ins (broadcastInDim S1x8 ![] bcast_S_S1x8 (constantI S_ 32 0#32)))
    (addi ins (broadcastInDim S1x8 ![] bcast_S_S1x8 (constantI S_ 32 8#32))) ins
/-- The rules' indices, with two added to a negative one. -/
def mfWrapped (mf : IVec S256x8 32) : IVec S256x8 32 :=
  select (cmpi .slt mf (broadcastInDim S256x8 ![] bcast_S_S256x8 (constantI S_ 32 0#32)))
    (addi mf (broadcastInDim S256x8 ![] bcast_S_S256x8 (constantI S_ 32 2#32))) mf
/-- The start indices: for each rule and input the input's number and the rule's index. -/
def starts (mf : IVec S256x8 32) : IVec S256x8x2 32 :=
  concatenate S256x8x2 2
    [⟨S256x8x1, broadcastInDim S256x8x1 ![0, 1] bcast_S256x8_S256x8x1_0_1 (broadcastInDim S256x8 ![0, 1] bcast_S1x8_S256x8_0_1 insWrapped)⟩,
     ⟨S256x8x1, broadcastInDim S256x8x1 ![0, 1] bcast_S256x8_S256x8x1_0_1 (mfWrapped mf)⟩]
    concatenates_S256x8x1_S256x8x1_S256x8x2_d2
/-- The membership values gathered. -/
def ants {F : FTy → Type} (x : FVec F S16384x8x2 .f32) (mf : IVec S256x8 32) : FVec F S16384x256x8 .f32 :=
  Host.gather gather_S16384x8x2_S256x8x2_S16384x256x8_0_12_n_n_12_2_1638411 x (starts mf)

def row (j : Fin 8) : S1x8.Idx := fun | 0 => ⟨0, Nat.one_pos⟩ | 1 => j
def nth (j : Fin 8) : S8.Idx := fun | 0 => j
def pair (r : Fin 256) (j : Fin 8) : S256x8.Idx := fun | 0 => r | 1 => j
def pair1 (r : Fin 256) (j : Fin 8) : S256x8x1.Idx := fun | 0 => r | 1 => j | 2 => ⟨0, Nat.one_pos⟩
def pair2 (r : Fin 256) (j : Fin 8) (k : Fin 2) : S256x8x2.Idx := fun | 0 => r | 1 => j | 2 => k
def triple (b : Fin 16384) (r : Fin 256) (j : Fin 8) : S16384x256x8.Idx := fun | 0 => b | 1 => r | 2 => j

/-- The inputs' numbers, counted up. -/
theorem ins_apply (j : Fin 8) : ins (row j) = BitVec.ofNat 32 j.val :=
  broadcastInDim_apply _ _ _ _ (nth j) fun k => by
    match k with
    | ⟨0, _⟩ => rfl

/-- No input's number is negative. -/
theorem insWrapped_apply (j : Fin 8) : insWrapped (row j) = BitVec.ofNat 32 j.val := by
  show (if IntOp.cmpi .slt (ins (row j)) 0#32 = 1#1 then IntOp.addi (ins (row j)) 8#32 else ins (row j)) = _
  rw [ins_apply]
  revert j
  decide

/-- No index that is zero or one is negative. -/
theorem mfWrapped_apply (mf : IVec S256x8 32) (y : S256x8.Idx) (h : (mf y).toNat < 2) : mfWrapped mf y = mf y := by
  show (if IntOp.cmpi .slt (mf y) 0#32 = 1#1 then IntOp.addi (mf y) 2#32 else mf y) = _
  refine if_neg fun e => ?_
  simp only [IntOp.cmpi, StableHlo.Predicate.ofBool_eq_one_iff, BitVec.slt_eq_decide, decide_eq_true_eq,
    BitVec.toInt_eq_toNat_cond, BitVec.toNat_ofNat, Nat.reducePow, Nat.reduceMod] at e
  omega

/-- An array as a column of width one, -/
theorem column_apply (v : IVec S256x8 32) (r : Fin 256) (j : Fin 8) : broadcastInDim S256x8x1 ![0, 1] bcast_S256x8_S256x8x1_0_1 v (pair1 r j) = v (pair r j) :=
  broadcastInDim_apply _ _ _ _ (pair r j) fun k => by
    match k with
    | ⟨0, _⟩ => rfl
    | ⟨1, _⟩ => rfl

/-- and a row repeated down the rules. -/
theorem down_apply (v : IVec S1x8 32) (r : Fin 256) (j : Fin 8) : broadcastInDim S256x8 ![0, 1] bcast_S1x8_S256x8_0_1 v (pair r j) = v (row j) :=
  broadcastInDim_apply _ _ _ _ (row j) fun k => by
    match k with
    | ⟨0, _⟩ => rfl
    | ⟨1, _⟩ => rfl

/-- A start's first word is the input's number, -/
theorem starts_zero (mf : IVec S256x8 32) (r : Fin 256) (j : Fin 8) : starts mf (pair2 r j 0) = BitVec.ofNat 32 j.val := by
  unfold starts
  refine (concatenate_pair_apply_left (t := S256x8x2) (s₁ := S256x8x1) (s₂ := S256x8x1) 2 _ _ _ (pair2 r j 0) rfl (pair1 r j) (fun b => by
    match b with
    | ⟨0, _⟩ => rfl
    | ⟨1, _⟩ => rfl
    | ⟨2, _⟩ => rfl)).trans ?_
  rw [column_apply, down_apply, insWrapped_apply]

/-- and its second the rule's index. -/
theorem starts_one (mf : IVec S256x8 32) (r : Fin 256) (j : Fin 8) (h : (mf (pair r j)).toNat < 2) : starts mf (pair2 r j 1) = mf (pair r j) := by
  unfold starts
  refine (concatenate_pair_apply_right (t := S256x8x2) (s₁ := S256x8x1) (s₂ := S256x8x1) 2 _ _ _ (pair2 r j 1) rfl rfl (pair1 r j) (fun b hb => by
    match b with
    | ⟨0, _⟩ => rfl
    | ⟨1, _⟩ => rfl
    | ⟨2, _⟩ => exact absurd rfl hb) rfl).trans ?_
  rw [column_apply, mfWrapped_apply mf _ h]

/-! ## The gather -/

/-- A gather's dimension record, short. -/
abbrev gd : GatherDims S16384x8x2 S256x8x2 S16384x256x8 := gather_S16384x8x2_S256x8x2_S16384x256x8_0_12_n_n_12_2_1638411

/-- The gather takes starts for the second axis -/
theorem mem_one : (1 : Fin 3) ∈ gd.startIndexMap := List.mem_cons_self
/-- and for the third, -/
theorem mem_two : (2 : Fin 3) ∈ gd.startIndexMap := List.mem_cons_of_mem _ (List.mem_singleton.mpr rfl)

/-- the second axis' from the first word -/
theorem siIdx_one (b : Fin 16384) (r : Fin 256) (j : Fin 8) :
    gd.siIdx (triple b r j) ⟨List.idxOf (1 : Fin 3) gd.startIndexMap, List.idxOf_lt_length_iff.2 mem_one⟩ = pair2 r j 0 := by
  funext a
  refine Fin.ext ?_
  match a with
  | ⟨0, _⟩ => rfl
  | ⟨1, _⟩ => rfl
  | ⟨2, _⟩ => rfl
/-- and the third axis' from the second. -/
theorem siIdx_two (b : Fin 16384) (r : Fin 256) (j : Fin 8) :
    gd.siIdx (triple b r j) ⟨List.idxOf (2 : Fin 3) gd.startIndexMap, List.idxOf_lt_length_iff.2 mem_two⟩ = pair2 r j 1 := by
  funext a
  refine Fin.ext ?_
  match a with
  | ⟨0, _⟩ => rfl
  | ⟨1, _⟩ => rfl
  | ⟨2, _⟩ => rfl

/-- A small word is its number, signed too. -/
theorem toInt_small {v : BitVec 32} {n : ℕ} (h : v.toNat = n) (hn : n < 8) : v.toInt.toNat = n := by
  rw [BitVec.toInt_eq_toNat_cond, h, if_pos (by omega), Int.toNat_natCast]

/-- The gather reads the membership value the rule takes. -/
theorem ants_apply {F : FTy → Type} (x : FVec F S16384x8x2 .f32) (mf : IVec S256x8 32) (h : Holds mf) (b : Fin 16384) (r : Fin 256) (j : Fin 8) :
    ants x mf (triple b r j) = factor x mf b.val r.val j.val := by
  have hp : (at2 r.val j.val : S256x8.Idx) = pair r j := funext fun a => by
    match a with
    | ⟨0, _⟩ => exact Fin.ext (Nat.mod_eq_of_lt r.isLt)
    | ⟨1, _⟩ => exact Fin.ext (Nat.mod_eq_of_lt j.isLt)
  have hlt := h.lt (pair r j)
  unfold ants Host.gather factor
  rw [hp]
  refine congrArg x (funext fun a => Fin.ext ?_)
  show gd.start (triple b r j) (starts mf) a + gd.batchCoord (triple b r j) a + gd.offCoord (triple b r j) a = _
  rw [gd.batchCoord_eq_zero _ a List.not_mem_nil, Nat.add_zero]
  match a with
  | ⟨0, _⟩ =>
    have := b.isLt
    have e1 : gd.start (triple b r j) (starts mf) (0 : Fin 3) = 0 := by
      unfold GatherDims.start
      exact dif_neg (by decide)
    have e2 : gd.offCoord (triple b r j) (0 : Fin 3) = b.val := by
      unfold GatherDims.offCoord
      rw [dif_pos ((gd.mem_sKept (0 : Fin 3)).mpr ⟨by decide, by decide⟩)]
      rfl
    show gd.start (triple b r j) (starts mf) (0 : Fin 3) + gd.offCoord (triple b r j) (0 : Fin 3) = b.val % 16384
    omega
  | ⟨1, _⟩ =>
    have := j.isLt
    have e1 : gd.start (triple b r j) (starts mf) (1 : Fin 3) = j.val := by
      unfold GatherDims.start
      rw [dif_pos mem_one, siIdx_one, starts_zero, toInt_small (n := j.val) (by rw [BitVec.toNat_ofNat]; omega) j.isLt]
      show min j.val (8 - 1) = j.val
      omega
    have e2 : gd.offCoord (triple b r j) (1 : Fin 3) = 0 := gd.offCoord_eq_zero _ _ fun hk => absurd ((gd.mem_sKept (1 : Fin 3)).mp hk).1 (by decide)
    show gd.start (triple b r j) (starts mf) (1 : Fin 3) + gd.offCoord (triple b r j) (1 : Fin 3) = j.val % 8
    omega
  | ⟨2, _⟩ =>
    have e1 : gd.start (triple b r j) (starts mf) (2 : Fin 3) = (mf (pair r j)).toNat := by
      unfold GatherDims.start
      rw [dif_pos mem_two, siIdx_two, starts_one mf r j hlt, toInt_small (n := (mf (pair r j)).toNat) rfl (by omega)]
      show min (mf (pair r j)).toNat (2 - 1) = _
      omega
    have e2 : gd.offCoord (triple b r j) (2 : Fin 3) = 0 := gd.offCoord_eq_zero _ _ fun hk => absurd ((gd.mem_sKept (2 : Fin 3)).mp hk).1 (by decide)
    show gd.start (triple b r j) (starts mf) (2 : Fin 3) + gd.offCoord (triple b r j) (2 : Fin 3) = (mf (pair r j)).toNat % 2
    omega

/-! ## The product -/

def single (b : Fin 16384) (r : Fin 256) : S16384x256x1.Idx := fun | 0 => b | 1 => r | 2 => ⟨0, Nat.one_pos⟩
def place (b : Fin 16384) (r : Fin 256) : S16384x256.Idx := fun | 0 => b | 1 => r

/-- Column `j` of the gathered values, as a matrix. -/
theorem column {F : FTy → Type} (g : FVec F S16384x256x8 .f32) (b : Fin 16384) (r : Fin 256) (j : ℕ) (hj : j < 8)
    (hs : S16384x256x8.Slices ![0, 0, j] S16384x256x1) (hc : S16384x256x1.ShapeCasts S16384x256) :
    shapeCast S16384x256 (extractStridedSlice S16384x256x1 ![0, 0, j] g hs) hc (place b r) = g (triple b r ⟨j, hj⟩) := by
  rw [shapeCast_apply _ hc (place b r) (single b r) (by
    rw [Shape.rowMajor_val_three, Shape.rowMajor_val_two]
    show (b.val * 256 + r.val) * 1 + 0 = b.val * 256 + r.val
    omega)]
  refine extractStridedSlice_apply _ _ _ _ _ fun a => ?_
  match a with
  | ⟨0, _⟩ => exact (Nat.zero_add _).symm
  | ⟨1, _⟩ => exact (Nat.zero_add _).symm
  | ⟨2, _⟩ => rfl

/-- The reference's result is the product of the eight factors. -/
theorem result (m : (ℓ : Loc nD τ sig) → Buf (Elt Ideal) ℓ) (c : Dev nD)
    (h : Holds (m ((c.tc : Thread nD τ).loc main_arg1))) (b : Fin 16384) (r : Fin 256) :
    Value.res_main_v41 (F := Ideal) m c (place b r)
      = prod8 (factor (m ((c.tc : Thread nD τ).loc main_arg0)) (m ((c.tc : Thread nD τ).loc main_arg1)) b.val r.val) := by
  have e (j : ℕ) (hj : j < 8) (hs : S16384x256x8.Slices ![0, 0, j] S16384x256x1) :
      shapeCast S16384x256 (extractStridedSlice S16384x256x1 ![0, 0, j]
        (ants (F := Ideal) (m ((c.tc : Thread nD τ).loc main_arg0)) (m ((c.tc : Thread nD τ).loc main_arg1))) hs) shapeCasts_S16384x256x1_S16384x256 (place b r)
      = factor (m ((c.tc : Thread nD τ).loc main_arg0)) (m ((c.tc : Thread nD τ).loc main_arg1)) b.val r.val j := by
    rw [column _ b r j hj hs]
    exact ants_apply _ _ h b r ⟨j, hj⟩
  rw [← prod8_one, ← e 0 (by decide) slices_S16384x256x8_S16384x256x1_0_0_0, ← e 1 (by decide) slices_S16384x256x8_S16384x256x1_0_0_1,
    ← e 2 (by decide) slices_S16384x256x8_S16384x256x1_0_0_2, ← e 3 (by decide) slices_S16384x256x8_S16384x256x1_0_0_3,
    ← e 4 (by decide) slices_S16384x256x8_S16384x256x1_0_0_4, ← e 5 (by decide) slices_S16384x256x8_S16384x256x1_0_0_5,
    ← e 6 (by decide) slices_S16384x256x8_S16384x256x1_0_0_6, ← e 7 (by decide) slices_S16384x256x8_S16384x256x1_0_0_7]
  rw [← Ideal.ofBits_one_f32]
  rfl

end Cert.RulesReference

end
-- ==== Proof.lean ====
/-
  The proof of every claim. The kernel's run (`Rules.run_main`, once at the machine's floats and once at the extended
  reals) gives its frames and its result; the reference's run is the generated one; the two results are equal because
  each is the product of the eight membership values that the rule takes (`KernelIdeal/Value.lean`, `Reference.lean`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_product_rules
public import proofs.«01_k».proof.Proof.Kernel.Launch
public import proofs.«01_k».proof.Proof.Kernel.Table
public import proofs.«01_k».proof.Proof.KernelIdeal.Value
public import proofs.«01_k».proof.Proof.Reference
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_product_rules.Gen.facts Cert.RulesPre.range_facts

/-- The range of the indices puts every table entry below sixteen, -/
theorem ok_kernel (m : (ℓ : Loc Cert.Kernel.nD Cert.Kernel.τ Cert.Kernel.sig) → Buf (Elt Bits) ℓ) (h : Cert.Pre_Kernel m) :
    Cert.Kernel.Rules.PreOK (F := Bits) m := fun d y => Cert.Kernel.Rules.tab_lt _ (Cert.RulesPre.lt_of_range _ _ (h d)) y
/-- for the idealized kernel too, -/
theorem ok_ideal (m : (ℓ : Loc Cert.KernelIdeal.nD Cert.KernelIdeal.τ Cert.KernelIdeal.sig) → Buf (Elt Ideal) ℓ) (h : Cert.Pre_KernelIdeal m) :
    Cert.KernelIdeal.Rules.PreOK (F := Ideal) m := fun d y => Cert.KernelIdeal.Rules.tab_lt _ (Cert.RulesPre.lt_of_range _ _ (h d)) y

/-- and under the value claim's precondition. -/
theorem ok_product (m : (ℓ : Loc Cert.KernelIdeal.nD Cert.KernelIdeal.τ Cert.KernelIdeal.sig) → Buf (Elt Ideal) ℓ) (h : Cert.Pre_KernelIdeal_product_rules m) :
    Cert.KernelIdeal.Rules.PreOK (F := Ideal) m := fun d y => Cert.KernelIdeal.Rules.tab_lt _ (Cert.RulesPre.holds_of_pre _ _ (h d)).lt y

/-- The kernel runs, leaves its arguments and ends with every semaphore at zero. -/
theorem frame_kernel : Cert.quiescent_Kernel := fun m g h =>
  (θ_run Cert.Kernel.defs _ _).mono (fun _ r => ⟨fun c => (r.1 c).2, r.2⟩) (Cert.Kernel.Rules.run_main (F := Bits) m g (ok_kernel m h))

/-- So does the idealized kernel. -/
theorem frame_ideal : Cert.quiescent_KernelIdeal := fun m g h =>
  (θ_run Cert.KernelIdeal.defs _ _).mono (fun _ r => ⟨fun c => (r.1 c).2, r.2⟩) (Cert.KernelIdeal.Rules.run_main (F := Ideal) m g (ok_ideal m h))

/-- And under the value claim's precondition. -/
theorem frame_product : Cert.quiescent_KernelIdeal_pre_product_rules := fun m g h =>
  (θ_run Cert.KernelIdeal.defs _ _).mono (fun _ r => ⟨fun c => (r.1 c).2, r.2⟩) (Cert.KernelIdeal.Rules.run_main (F := Ideal) m g (ok_product m h))

/-- The reference runs, leaves its arguments and declares no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- The kernel's result and the reference's are the same, for the same arguments. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_product_rules m)
    (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v41 (F := Ideal) m' c = Cert.KernelIdeal.Rules.outVal (F := Ideal) m c := by
  have hm := Cert.RulesPre.holds_of_pre _ _ (h c)
  have hm' : Cert.RulesPre.Holds (m' ((c.tc : Thread Cert.ReferenceIdeal.nD Cert.ReferenceIdeal.τ).loc Cert.ReferenceIdeal.main_arg1)) := by
    rw [e.2]; exact hm
  refine funext fun (y : Cert.KernelIdeal.S16384x256.Idx) => ?_
  have hy : y = Cert.RulesReference.place ⟨(y 0).val, (y 0).isLt⟩ ⟨(y 1).val, (y 1).isLt⟩ := funext fun a => by
    match a with
    | ⟨0, _⟩ => rfl
    | ⟨1, _⟩ => rfl
  refine Eq.trans ?_ (Cert.KernelIdeal.Rules.whole_prod _ hm (m ((c.tc : Thread Cert.KernelIdeal.nD Cert.KernelIdeal.τ).loc Cert.KernelIdeal.main_arg0)) y).symm
  have hr := Cert.RulesReference.result m' c hm' ⟨(y 0).val, (y 0).isLt⟩ ⟨(y 1).val, (y 1).isLt⟩
  rw [e.1, e.2] at hr
  exact (congrArg (Cert.ReferenceIdeal.Value.res_main_v41 (F := Ideal) m' c) hy).trans hr

/-- Both run and end with the same result. -/
theorem algebraic : Cert.algebraic_KernelIdeal_ReferenceIdeal_pre_product_rules := fun m g m' g' h e =>
  ⟨fun c => Cert.KernelIdeal.Rules.outVal (F := Ideal) m c,
    (θ_run Cert.KernelIdeal.defs _ _).mono (fun _ r c => r.1 c) (Cert.KernelIdeal.Rules.run_main (F := Ideal) m g (ok_product m h)),
    (θ_run Cert.ReferenceIdeal.defs _ _).mono (fun _ r c => ⟨(r c).1.trans (equal m m' h c (e c)), (r c).2⟩) (Cert.ReferenceIdeal.Value.run (F := Ideal) m' g')⟩

/-- Everything that the certificate claims. -/
theorem claim : Cert.Claim := ⟨Cert.Kernel.Gen.facts, Cert.KernelIdeal.Gen.facts, Cert.ReferenceIdeal.Gen.facts, Cert.RulesPre.range_facts,
  Cert.Pre_product_rules.Gen.facts, frame_kernel, frame_ideal, frame_product, frame_reference, fun m g _ => frame_reference m g trivial, trivial, algebraic⟩

end Cert.Proof

end
